-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3)
      ∧ r.2.mem ((c.tc : Thread Cert.Fc.nD Cert.Fc.τ).loc Cert.Fc.main_arg4) = m ((c.tc : Thread Cert.Fc.nD Cert.Fc.τ).loc Cert.Fc.main_arg4))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
      ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2)
      ∧ r.2.mem ((c.tc : Thread Cert.FcRefIdeal.nD Cert.FcRefIdeal.τ).loc Cert.FcRefIdeal.main_arg3) = m ((c.tc : Thread Cert.FcRefIdeal.nD Cert.FcRefIdeal.τ).loc Cert.FcRefIdeal.main_arg3)
      ∧ r.2.mem ((c.tc : Thread Cert.FcRefIdeal.nD Cert.FcRefIdeal.τ).loc Cert.FcRefIdeal.main_arg4) = m ((c.tc : Thread Cert.FcRefIdeal.nD Cert.FcRefIdeal.τ).loc Cert.FcRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v10)) (v2 : (c : Dev Cert.QkvIdeal.nD) → Buf (Elt Ideal) ((c.tc : Thread Cert.QkvIdeal.nD Cert.QkvIdeal.τ).loc Cert.QkvIdeal.main_v11)) (v3 : (c : Dev Cert.QkvIdeal.nD) → Buf (Elt Ideal) ((c.tc : Thread Cert.QkvIdeal.nD Cert.QkvIdeal.τ).loc Cert.QkvIdeal.main_v13)) (v4 : (c : Dev Cert.QkvIdeal.nD) → Buf (Elt Ideal) ((c.tc : Thread Cert.QkvIdeal.nD Cert.QkvIdeal.τ).loc Cert.QkvIdeal.main_v15)) (v5 : (c : Dev Cert.QkvIdeal.nD) → Buf (Elt Ideal) ((c.tc : Thread Cert.QkvIdeal.nD Cert.QkvIdeal.τ).loc Cert.QkvIdeal.main_v17)) (v6 : (c : Dev Cert.QkvIdeal.nD) → Buf (Elt Ideal) ((c.tc : Thread Cert.QkvIdeal.nD Cert.QkvIdeal.τ).loc Cert.QkvIdeal.main_v19)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v10) = v1 c
          ∧ r.2.mem ((c.tc : Thread Cert.QkvIdeal.nD Cert.QkvIdeal.τ).loc Cert.QkvIdeal.main_v11) = v2 c
          ∧ r.2.mem ((c.tc : Thread Cert.QkvIdeal.nD Cert.QkvIdeal.τ).loc Cert.QkvIdeal.main_v13) = v3 c
          ∧ r.2.mem ((c.tc : Thread Cert.QkvIdeal.nD Cert.QkvIdeal.τ).loc Cert.QkvIdeal.main_v15) = v4 c
          ∧ r.2.mem ((c.tc : Thread Cert.QkvIdeal.nD Cert.QkvIdeal.τ).loc Cert.QkvIdeal.main_v17) = v5 c
          ∧ r.2.mem ((c.tc : Thread Cert.QkvIdeal.nD Cert.QkvIdeal.τ).loc Cert.QkvIdeal.main_v19) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v118) = v0 c
          ∧ r.2.mem ((c.tc : Thread Cert.QkvRefIdeal.nD Cert.QkvRefIdeal.τ).loc Cert.QkvRefIdeal.main_v36) = v1 c
          ∧ r.2.mem ((c.tc : Thread Cert.QkvRefIdeal.nD Cert.QkvRefIdeal.τ).loc Cert.QkvRefIdeal.main_v29) = v2 c
          ∧ r.2.mem ((c.tc : Thread Cert.QkvRefIdeal.nD Cert.QkvRefIdeal.τ).loc Cert.QkvRefIdeal.main_v102) = v3 c
          ∧ r.2.mem ((c.tc : Thread Cert.QkvRefIdeal.nD Cert.QkvRefIdeal.τ).loc Cert.QkvRefIdeal.main_v95) = v4 c
          ∧ r.2.mem ((c.tc : Thread Cert.QkvRefIdeal.nD Cert.QkvRefIdeal.τ).loc Cert.QkvRefIdeal.main_v116) = v5 c
          ∧ r.2.mem ((c.tc : Thread Cert.QkvRefIdeal.nD Cert.QkvRefIdeal.τ).loc Cert.QkvRefIdeal.main_v109) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Attn_AttnIdeal : Prop :=
  True

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)) →
    ∃ (v0 : (c : Dev Cert.OprojIdeal.nD) → Buf (Elt Ideal) ((c.tc : Thread Cert.OprojIdeal.nD Cert.OprojIdeal.τ).loc Cert.OprojIdeal.main_v5_0)) (v1 : (c : Dev Cert.OprojIdeal.nD) → Buf (Elt Ideal) ((c.tc : Thread Cert.OprojIdeal.nD Cert.OprojIdeal.τ).loc Cert.OprojIdeal.main_v5_1)) (v2 : (c : Dev Cert.OprojIdeal.nD) → Buf (Elt Ideal) ((c.tc : Thread Cert.OprojIdeal.nD Cert.OprojIdeal.τ).loc Cert.OprojIdeal.main_v5_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v5_0) = v0 c
          ∧ r.2.mem ((c.tc : Thread Cert.OprojIdeal.nD Cert.OprojIdeal.τ).loc Cert.OprojIdeal.main_v5_1) = v1 c
          ∧ r.2.mem ((c.tc : Thread Cert.OprojIdeal.nD Cert.OprojIdeal.τ).loc Cert.OprojIdeal.main_v5_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v55) = v0 c
          ∧ r.2.mem ((c.tc : Thread Cert.OprojRefIdeal.nD Cert.OprojRefIdeal.τ).loc Cert.OprojRefIdeal.main_v56) = v1 c
          ∧ r.2.mem ((c.tc : Thread Cert.OprojRefIdeal.nD Cert.OprojRefIdeal.τ).loc Cert.OprojRefIdeal.main_v47) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7))

def preserves_Fc_FcIdeal : Prop :=
  True

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)
      ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)
      ∧ m' ((c.tc : Thread Cert.FcRefIdeal.nD Cert.FcRefIdeal.τ).loc Cert.FcRefIdeal.main_arg4) = m ((c.tc : Thread Cert.FcIdeal.nD Cert.FcIdeal.τ).loc Cert.FcIdeal.main_arg4)) →
    ∃ (v0 : (c : Dev Cert.FcIdeal.nD) → Buf (Elt Ideal) ((c.tc : Thread Cert.FcIdeal.nD Cert.FcIdeal.τ).loc Cert.FcIdeal.main_v3)) (v1 : (c : Dev Cert.FcIdeal.nD) → Buf (Elt Ideal) ((c.tc : Thread Cert.FcIdeal.nD Cert.FcIdeal.τ).loc Cert.FcIdeal.main_v2_1)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v3) = v0 c
          ∧ r.2.mem ((c.tc : Thread Cert.FcIdeal.nD Cert.FcIdeal.τ).loc Cert.FcIdeal.main_v2_1) = v1 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
          ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v43) = v0 c
          ∧ r.2.mem ((c.tc : Thread Cert.FcRefIdeal.nD Cert.FcRefIdeal.τ).loc Cert.FcRefIdeal.main_v36) = v1 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2)
          ∧ r.2.mem ((c.tc : Thread Cert.FcRefIdeal.nD Cert.FcRefIdeal.τ).loc Cert.FcRefIdeal.main_arg3) = m' ((c.tc : Thread Cert.FcRefIdeal.nD Cert.FcRefIdeal.τ).loc Cert.FcRefIdeal.main_arg3)
          ∧ r.2.mem ((c.tc : Thread Cert.FcRefIdeal.nD Cert.FcRefIdeal.τ).loc Cert.FcRefIdeal.main_arg4) = m' ((c.tc : Thread Cert.FcRefIdeal.nD Cert.FcRefIdeal.τ).loc Cert.FcRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hOproj : Cert.Oproj.Facts) (hOprojIdeal : Cert.OprojIdeal.Facts) (hOprojRefIdeal : Cert.OprojRefIdeal.Facts) (hFc : Cert.Fc.Facts) (hFcIdeal : Cert.FcIdeal.Facts) (hFcRefIdeal : Cert.FcRefIdeal.Facts) (hProj : Cert.Proj.Facts) (hProjIdeal : Cert.ProjIdeal.Facts) (hProjRefIdeal : Cert.ProjRefIdeal.Facts),
    quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ quiescent_AttnRefIdeal (hAttnRefIdeal := hAttnRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Fc (hFc := hFc)
    ∧ quiescent_FcIdeal (hFcIdeal := hFcIdeal)
    ∧ quiescent_FcRefIdeal (hFcRefIdeal := hFcRefIdeal)
    ∧ quiescent_Proj (hProj := hProj)
    ∧ quiescent_ProjIdeal (hProjIdeal := hProjIdeal)
    ∧ quiescent_ProjRefIdeal (hProjRefIdeal := hProjRefIdeal)
    ∧ preserves_Qkv_QkvIdeal
    ∧ algebraic_QkvIdeal_QkvRefIdeal (hQkvIdeal := hQkvIdeal) (hQkvRefIdeal := hQkvRefIdeal)
    ∧ preserves_Attn_AttnIdeal
    ∧ preserves_Oproj_OprojIdeal
    ∧ algebraic_OprojIdeal_OprojRefIdeal (hOprojIdeal := hOprojIdeal) (hOprojRefIdeal := hOprojRefIdeal)
    ∧ preserves_Fc_FcIdeal
    ∧ algebraic_FcIdeal_FcRefIdeal (hFcIdeal := hFcIdeal) (hFcRefIdeal := hFcRefIdeal)
    ∧ preserves_Proj_ProjIdeal
    ∧ algebraic_ProjIdeal_ProjRefIdeal (hProjIdeal := hProjIdeal) (hProjRefIdeal := hProjRefIdeal)
-- ==== Qkv.lean ====
abbrev S96x1x6144 : Shape := ⟨3, ![96, 1, 6144]⟩
abbrev S96x1x64 : Shape := ⟨3, ![96, 1, 64]⟩
abbrev S6144 : Shape := ⟨1, ![6144]⟩
abbrev S6144x3584 : Shape := ⟨2, ![6144, 3584]⟩
abbrev S3584 : Shape := ⟨1, ![3584]⟩
abbrev S96x6144 : Shape := ⟨2, ![96, 6144]⟩
abbrev S96x64 : Shape := ⟨2, ![96, 64]⟩
abbrev S64x96 : Shape := ⟨2, ![64, 96]⟩
abbrev S1x6144 : Shape := ⟨2, ![1, 6144]⟩
abbrev S1x3584 : Shape := ⟨2, ![1, 3584]⟩
abbrev S96x3072 : Shape := ⟨2, ![96, 3072]⟩
abbrev S1x96 : Shape := ⟨2, ![1, 96]⟩
abbrev S2x96x128 : Shape := ⟨3, ![2, 96, 128]⟩
abbrev S2x96 : Shape := ⟨2, ![2, 96]⟩
abbrev S6144x512 : Shape := ⟨2, ![6144, 512]⟩
abbrev S1x512 : Shape := ⟨2, ![1, 512]⟩
abbrev S96x512 : Shape := ⟨2, ![96, 512]⟩
abbrev S96x1 : Shape := ⟨2, ![96, 1]⟩
abbrev S96 : Shape := ⟨1, ![96]⟩
abbrev S96x128 : Shape := ⟨2, ![96, 128]⟩
abbrev S128x96 : Shape := ⟨2, ![128, 96]⟩
abbrev S1x96x128 : Shape := ⟨3, ![1, 96, 128]⟩
abbrev S96x2x128 : Shape := ⟨3, ![96, 2, 128]⟩
abbrev S96x1x2x128 : Shape := ⟨4, ![96, 1, 2, 128]⟩
abbrev S96x2 : Shape := ⟨2, ![96, 2]⟩
abbrev S96x1x2 : Shape := ⟨3, ![96, 1, 2]⟩

abbrev nBuf : Space → Nat
  | .hbm => 34
  | .vmem => 21
  | .smem => 0
  | _ => 0

abbrev bufTy : (tb : Table) → Fin (tcTables nBuf tb) → BufTy
  | .hbm, ⟨0, _⟩ => ⟨S96x1x6144, .bf16⟩
  | .hbm, ⟨1, _⟩ => ⟨S96x1x64, .f32⟩
  | .hbm, ⟨2, _⟩ => ⟨S96x1x64, .f32⟩
  | .hbm, ⟨3, _⟩ => ⟨S6144, .f32⟩
  | .hbm, ⟨4, _⟩ => ⟨S6144, .f32⟩
  | .hbm, ⟨5, _⟩ => ⟨S6144x3584, .i8⟩
  | .hbm, ⟨6, _⟩ => ⟨S3584, .f32⟩
  | .hbm, ⟨7, _⟩ => ⟨S3584, .f32⟩
  | .hbm, ⟨8, _⟩ => ⟨S96x6144, .bf16⟩
  | .hbm, ⟨9, _⟩ => ⟨S96x64, .f32⟩
  | .hbm, ⟨10, _⟩ => ⟨S64x96, .f32⟩
  | .hbm, ⟨11, _⟩ => ⟨S96x64, .f32⟩
  | .hbm, ⟨12, _⟩ => ⟨S64x96, .f32⟩
  | .hbm, ⟨13, _⟩ => ⟨S1x6144, .f32⟩
  | .hbm, ⟨14, _⟩ => ⟨S1x6144, .f32⟩
  | .hbm, ⟨15, _⟩ => ⟨S1x3584, .f32⟩
  | .hbm, ⟨16, _⟩ => ⟨S1x3584, .f32⟩
  | .hbm, ⟨17, _⟩ => ⟨S96x3072, .bf16⟩
  | .hbm, ⟨18, _⟩ => ⟨S96x6144, .i8⟩
  | .hbm, ⟨19, _⟩ => ⟨S1x96, .f32⟩
  | .hbm, ⟨20, _⟩ => ⟨S2x96x128, .i8⟩
  | .hbm, ⟨21, _⟩ => ⟨S2x96, .f32⟩
  | .hbm, ⟨22, _⟩ => ⟨S2x96x128, .i8⟩
  | .hbm, ⟨23, _⟩ => ⟨S2x96, .f32⟩
  | .hbm, ⟨24, _⟩ => ⟨S96x1x6144, .i8⟩
  | .hbm, ⟨25, _⟩ => ⟨S96x1, .f32⟩
  | .hbm, ⟨26, _⟩ => ⟨S96x2x128, .i8⟩
  | .hbm, ⟨27, _⟩ => ⟨S96x1x2x128, .i8⟩
  | .hbm, ⟨28, _⟩ => ⟨S96x2, .f32⟩
  | .hbm, ⟨29, _⟩ => ⟨S96x1x2, .f32⟩
  | .hbm, ⟨30, _⟩ => ⟨S96x2x128, .i8⟩
  | .hbm, ⟨31, _⟩ => ⟨S96x1x2x128, .i8⟩
  | .hbm, ⟨32, _⟩ => ⟨S96x2, .f32⟩
  | .hbm, ⟨33, _⟩ => ⟨S96x1x2, .f32⟩
  | .local _ .vmem, ⟨0, _⟩ => ⟨S96x6144, .bf16⟩
  | .local _ .vmem, ⟨1, _⟩ => ⟨S1x6144, .f32⟩
  | .local _ .vmem, ⟨2, _⟩ => ⟨S1x6144, .f32⟩
  | .local _ .vmem, ⟨3, _⟩ => ⟨S64x96, .f32⟩
  | .local _ .vmem, ⟨4, _⟩ => ⟨S64x96, .f32⟩
  | .local _ .vmem, ⟨5, _⟩ => ⟨S6144x512, .i8⟩
  | .local _ .vmem, ⟨6, _⟩ => ⟨S6144x512, .i8⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S96x512, .bf16⟩
  | .local _ .vmem, ⟨12, _⟩ => ⟨S96x512, .bf16⟩
  | .local _ .vmem, ⟨13, _⟩ => ⟨S96x6144, .i8⟩
  | .local _ .vmem, ⟨14, _⟩ => ⟨S1x96, .f32⟩
  | .local _ .vmem, ⟨15, _⟩ => ⟨S2x96x128, .i8⟩
  | .local _ .vmem, ⟨16, _⟩ => ⟨S2x96, .f32⟩
  | .local _ .vmem, ⟨17, _⟩ => ⟨S2x96x128, .i8⟩
  | .local _ .vmem, ⟨18, _⟩ => ⟨S2x96, .f32⟩
  | .local _ .vmem, ⟨19, _⟩ => ⟨S96x6144, .bf16⟩
  | .local _ .vmem, ⟨20, _⟩ => ⟨S96x1, .f32⟩
  | _, _ => ⟨S96x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v28 : BitVec 1 := Scalar.cmpi .slt arg0 c6_i32
  let v29 : BitVec 32 := Scalar.extui v28
  let c0_i32_15 : BitVec 32 := 0#32
  let v30 : BitVec 1 := Scalar.cmpi .ne v29 c0_i32_15
  v30

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c6_i32_16 : BitVec 32 := 6#32
  let v31 : BitVec 1 := Scalar.cmpi .eq arg0 c6_i32_16
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6144x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S96x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S96x6144 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x96x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x96x128 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QkvRefIdeal.lean ====
abbrev S96x1x6144 : Shape := ⟨3, ![96, 1, 6144]⟩
abbrev S96x1x64 : Shape := ⟨3, ![96, 1, 64]⟩
abbrev S6144 : Shape := ⟨1, ![6144]⟩
abbrev S6144x3584 : Shape := ⟨2, ![6144, 3584]⟩
abbrev S3584 : Shape := ⟨1, ![3584]⟩
abbrev S_ : Shape := ⟨0, ![]⟩
abbrev S96x1 : Shape := ⟨2, ![96, 1]⟩
abbrev S96x1x1 : Shape := ⟨3, ![96, 1, 1]⟩
abbrev S1x1x6144 : Shape := ⟨3, ![1, 1, 6144]⟩
abbrev S96x1x3584 : Shape := ⟨3, ![96, 1, 3584]⟩
abbrev S1x1x3584 : Shape := ⟨3, ![1, 1, 3584]⟩
abbrev S96x1x3072 : Shape := ⟨3, ![96, 1, 3072]⟩
abbrev S96x1x24x128 : Shape := ⟨4, ![96, 1, 24, 128]⟩
abbrev S96x1x256 : Shape := ⟨3, ![96, 1, 256]⟩
abbrev S96x1x2x128 : Shape := ⟨4, ![96, 1, 2, 128]⟩
abbrev S96x1x1x64 : Shape := ⟨4, ![96, 1, 1, 64]⟩
abbrev S96x1x24x64 : Shape := ⟨4, ![96, 1, 24, 64]⟩
abbrev S96x1x2x64 : Shape := ⟨4, ![96, 1, 2, 64]⟩
abbrev S96x1x2 : Shape := ⟨3, ![96, 1, 2]⟩
abbrev S96x1x2x1 : Shape := ⟨4, ![96, 1, 2, 1]⟩
abbrev S96x3072 : Shape := ⟨2, ![96, 3072]⟩

abbrev nBuf : Space → Nat
  | .hbm => 171
  | .vmem => 0
  | .smem => 0
  | _ => 0

abbrev hbmTy0_0 (i : Nat) : BufTy := match i % 128 with
  | 0 => ⟨S96x1x6144, .bf16⟩
  | 1 => ⟨S96x1x64, .f32⟩
  | 2 => ⟨S96x1x64, .f32⟩
  | 3 => ⟨S6144, .f32⟩
  | 4 => ⟨S6144, .f32⟩
  | 5 => ⟨S6144x3584, .i8⟩
  | 6 => ⟨S3584, .f32⟩
  | 7 => ⟨S3584, .f32⟩
  | 8 => ⟨S96x1x6144, .f32⟩
  | 9 => ⟨S_, .f32⟩
  | 10 => ⟨S96x1, .f32⟩
  | 11 => ⟨S96x1x1, .f32⟩
  | 12 => ⟨S_, .f32⟩
  | 13 => ⟨S96x1x1, .f32⟩
  | 14 => ⟨S96x1x1, .f32⟩
  | 15 => ⟨S96x1x6144, .f32⟩
  | 16 => ⟨S96x1x6144, .f32⟩
  | 17 => ⟨S96x1x6144, .f32⟩
  | 18 => ⟨S_, .f32⟩
  | 19 => ⟨S96x1, .f32⟩
  | 20 => ⟨S96x1x1, .f32⟩
  | 21 => ⟨S_, .f32⟩
  | 22 => ⟨S96x1x1, .f32⟩
  | 23 => ⟨S96x1x1, .f32⟩
  | 24 => ⟨S_, .f32⟩
  | 25 => ⟨S96x1x1, .f32⟩
  | 26 => ⟨S96x1x1, .f32⟩
  | 27 => ⟨S96x1x1, .f32⟩
  | 28 => ⟨S96x1x6144, .f32⟩
  | 29 => ⟨S96x1x6144, .f32⟩
  | 30 => ⟨S1x1x6144, .f32⟩
  | 31 => ⟨S96x1x6144, .f32⟩
  | 32 => ⟨S96x1x6144, .f32⟩
  | 33 => ⟨S1x1x6144, .f32⟩
  | 34 => ⟨S96x1x6144, .f32⟩
  | 35 => ⟨S96x1x6144, .f32⟩
  | 36 => ⟨S96x1x6144, .f32⟩
  | 37 => ⟨S_, .f32⟩
  | 38 => ⟨S96x1, .f32⟩
  | 39 => ⟨S_, .f32⟩
  | 40 => ⟨S96x1, .f32⟩
  | 41 => ⟨S96x1, .i1⟩
  | 42 => ⟨S_, .f32⟩
  | 43 => ⟨S96x1, .f32⟩
  | 44 => ⟨S96x1, .f32⟩
  | 45 => ⟨S_, .f32⟩
  | 46 => ⟨S_, .f32⟩
  | 47 => ⟨S96x1, .f32⟩
  | 48 => ⟨S96x1, .f32⟩
  | 49 => ⟨S96x1x1, .f32⟩
  | 50 => ⟨S96x1x6144, .f32⟩
  | 51 => ⟨S96x1x6144, .f32⟩
  | 52 => ⟨S96x1x6144, .f32⟩
  | 53 => ⟨S_, .i32⟩
  | 54 => ⟨S_, .i32⟩
  | 55 => ⟨S_, .f32⟩
  | 56 => ⟨S96x1x6144, .f32⟩
  | 57 => ⟨S96x1x6144, .f32⟩
  | 58 => ⟨S_, .f32⟩
  | 59 => ⟨S96x1x6144, .f32⟩
  | 60 => ⟨S96x1x6144, .f32⟩
  | 61 => ⟨S96x1x6144, .i32⟩
  | 62 => ⟨S96x1x6144, .i8⟩
  | 63 => ⟨S96x1x6144, .i32⟩
  | 64 => ⟨S96x1x6144, .f32⟩
  | 65 => ⟨S96x1x6144, .bf16⟩
  | 66 => ⟨S6144x3584, .i32⟩
  | 67 => ⟨S6144x3584, .f32⟩
  | 68 => ⟨S6144x3584, .bf16⟩
  | 69 => ⟨S96x1x3584, .f32⟩
  | 70 => ⟨S96x1x1, .f32⟩
  | 71 => ⟨S96x1x3584, .f32⟩
  | 72 => ⟨S96x1x3584, .f32⟩
  | 73 => ⟨S1x1x3584, .f32⟩
  | 74 => ⟨S96x1x3584, .f32⟩
  | 75 => ⟨S96x1x3584, .f32⟩
  | 76 => ⟨S1x1x3584, .f32⟩
  | 77 => ⟨S96x1x3584, .f32⟩
  | 78 => ⟨S96x1x3584, .f32⟩
  | 79 => ⟨S96x1x3072, .f32⟩
  | 80 => ⟨S96x1x24x128, .f32⟩
  | 81 => ⟨S96x1x256, .f32⟩
  | 82 => ⟨S96x1x2x128, .f32⟩
  | 83 => ⟨S96x1x256, .f32⟩
  | 84 => ⟨S96x1x2x128, .f32⟩
  | 85 => ⟨S96x1x1x64, .f32⟩
  | 86 => ⟨S96x1x1x64, .f32⟩
  | 87 => ⟨S96x1x24x64, .f32⟩
  | 88 => ⟨S96x1x24x64, .f32⟩
  | 89 => ⟨S96x1x24x64, .f32⟩
  | 90 => ⟨S96x1x24x64, .f32⟩
  | 91 => ⟨S96x1x24x64, .f32⟩
  | 92 => ⟨S96x1x24x64, .f32⟩
  | 93 => ⟨S96x1x24x64, .f32⟩
  | 94 => ⟨S96x1x24x64, .f32⟩
  | 95 => ⟨S96x1x24x64, .f32⟩
  | 96 => ⟨S96x1x24x64, .f32⟩
  | 97 => ⟨S96x1x24x64, .f32⟩
  | 98 => ⟨S96x1x24x64, .f32⟩
  | 99 => ⟨S96x1x24x128, .f32⟩
  | 100 => ⟨S96x1x1x64, .f32⟩
  | 101 => ⟨S96x1x1x64, .f32⟩
  | 102 => ⟨S96x1x2x64, .f32⟩
  | 103 => ⟨S96x1x2x64, .f32⟩
  | 104 => ⟨S96x1x2x64, .f32⟩
  | 105 => ⟨S96x1x2x64, .f32⟩
  | 106 => ⟨S96x1x2x64, .f32⟩
  | 107 => ⟨S96x1x2x64, .f32⟩
  | 108 => ⟨S96x1x2x64, .f32⟩
  | 109 => ⟨S96x1x2x64, .f32⟩
  | 110 => ⟨S96x1x2x64, .f32⟩
  | 111 => ⟨S96x1x2x64, .f32⟩
  | 112 => ⟨S96x1x2x64, .f32⟩
  | 113 => ⟨S96x1x2x64, .f32⟩
  | 114 => ⟨S96x1x2x128, .f32⟩
  | 115 => ⟨S96x1x2x128, .f32⟩
  | 116 => ⟨S_, .f32⟩
  | 117 => ⟨S96x1x2, .f32⟩
  | 118 => ⟨S_, .f32⟩
  | 119 => ⟨S96x1x2, .f32⟩
  | 120 => ⟨S96x1x2, .i1⟩
  | 121 => ⟨S_, .f32⟩
  | 122 => ⟨S96x1x2, .f32⟩
  | 123 => ⟨S96x1x2, .f32⟩
  | 124 => ⟨S_, .f32⟩
  | 125 => ⟨S_, .f32⟩
  | 126 => ⟨S96x1x2, .f32⟩
  | 127 => ⟨S96x1x2, .f32⟩
  | _ => ⟨S96x1x6144, .bf16⟩

abbrev hbmTy0_1 (i : Nat) : BufTy := match i % 128 with
  | 0 => ⟨S96x1x2x1, .f32⟩
  | 1 => ⟨S96x1x2x128, .f32⟩
  | 2 => ⟨S96x1x2x128, .f32⟩
  | 3 => ⟨S96x1x2x128, .f32⟩
  | 4 => ⟨S_, .i32⟩
  | 5 => ⟨S_, .i32⟩
  | 6 => ⟨S_, .f32⟩
  | 7 => ⟨S96x1x2x128, .f32⟩
  | 8 => ⟨S96x1x2x128, .f32⟩
  | 9 => ⟨S_, .f32⟩
  | 10 => ⟨S96x1x2x128, .f32⟩
  | 11 => ⟨S96x1x2x128, .f32⟩
  | 12 => ⟨S96x1x2x128, .i32⟩
  | 13 => ⟨S96x1x2x128, .i8⟩
  | 14 => ⟨S96x1x2x128, .f32⟩
  | 15 => ⟨S_, .f32⟩
  | 16 => ⟨S96x1x2, .f32⟩
  | 17 => ⟨S_, .f32⟩
  | 18 => ⟨S96x1x2, .f32⟩
  | 19 => ⟨S96x1x2, .i1⟩
  | 20 => ⟨S_, .f32⟩
  | 21 => ⟨S96x1x2, .f32⟩
  | 22 => ⟨S96x1x2, .f32⟩
  | 23 => ⟨S_, .f32⟩
  | 24 => ⟨S_, .f32⟩
  | 25 => ⟨S96x1x2, .f32⟩
  | 26 => ⟨S96x1x2, .f32⟩
  | 27 => ⟨S96x1x2x1, .f32⟩
  | 28 => ⟨S96x1x2x128, .f32⟩
  | 29 => ⟨S96x1x2x128, .f32⟩
  | 30 => ⟨S96x1x2x128, .f32⟩
  | 31 => ⟨S_, .i32⟩
  | 32 => ⟨S_, .i32⟩
  | 33 => ⟨S_, .f32⟩
  | 34 => ⟨S96x1x2x128, .f32⟩
  | 35 => ⟨S96x1x2x128, .f32⟩
  | 36 => ⟨S_, .f32⟩
  | 37 => ⟨S96x1x2x128, .f32⟩
  | 38 => ⟨S96x1x2x128, .f32⟩
  | 39 => ⟨S96x1x2x128, .i32⟩
  | 40 => ⟨S96x1x2x128, .i8⟩
  | 41 => ⟨S96x3072, .f32⟩
  | 42 => ⟨S96x3072, .bf16⟩
  | _ => ⟨S96x1x6144, .bf16⟩

abbrev hbmTy (i : Nat) : BufTy := match i / 128 with
  | 0 => hbmTy0_0 i
  | 1 => hbmTy0_1 i
  | _ => ⟨S96x1x6144, .bf16⟩

abbrev bufTy : (tb : Table) → Fin (tcTables nBuf tb) → BufTy
  | .hbm, ⟨i, _⟩ => hbmTy i
  | _, _ => ⟨S96x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_c_8 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_9 : Ref sig .tc := ⟨.hbm, 116, rfl⟩
abbrev main_v90 : Ref sig .tc := ⟨.hbm, 117, rfl⟩
abbrev main_cst_10 : Ref sig .tc := ⟨.hbm, 118, rfl⟩
abbrev main_v91 : Ref sig .tc := ⟨.hbm, 119, rfl⟩
abbrev main_v92 : Ref sig .tc := ⟨.hbm, 120, rfl⟩
abbrev main_cst_11 : Ref sig .tc := ⟨.hbm, 121, rfl⟩
abbrev main_v93 : Ref sig .tc := ⟨.hbm, 122, rfl⟩
abbrev main_v94 : Ref sig .tc := ⟨.hbm, 123, rfl⟩
abbrev main_cst_12 : Ref sig .tc := ⟨.hbm, 124, rfl⟩
abbrev main_call3_v0 : Ref sig .tc := ⟨.hbm, 125, rfl⟩
abbrev main_call3_v1 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_13 : Ref sig .tc := ⟨.hbm, 132, rfl⟩
abbrev main_c_14 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_15 : Ref sig .tc := ⟨.hbm, 143, rfl⟩
abbrev main_v104 : Ref sig .tc := ⟨.hbm, 144, rfl⟩
abbrev main_cst_16 : Ref sig .tc := ⟨.hbm, 145, rfl⟩
abbrev main_v105 : Ref sig .tc := ⟨.hbm, 146, rfl⟩
abbrev main_v106 : Ref sig .tc := ⟨.hbm, 147, rfl⟩
abbrev main_cst_17 : Ref sig .tc := ⟨.hbm, 148, rfl⟩
abbrev main_v107 : Ref sig .tc := ⟨.hbm, 149, rfl⟩
abbrev main_v108 : Ref sig .tc := ⟨.hbm, 150, rfl⟩
abbrev main_cst_18 : Ref sig .tc := ⟨.hbm, 151, rfl⟩
abbrev main_call6_v0 : Ref sig .tc := ⟨.hbm, 152, rfl⟩
abbrev main_call6_v1 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_19 : Ref sig .tc := ⟨.hbm, 159, rfl⟩
abbrev main_c_20 : Ref sig .tc := ⟨.hbm, 160, rfl⟩
abbrev main_call8_v0 : Ref sig .tc := ⟨.hbm, 161, rfl⟩
abbrev main_call8_v1 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩

abbrev nD : Nat := 1
abbrev τ : Topo := Topo.v7x

variable {F : FTy → Type} [FloatOps F]
-- ==== Attn.lean ====
abbrev S96x3072 : Shape := ⟨2, ![96, 3072]⟩
abbrev S96 : Shape := ⟨1, ![96]⟩
abbrev S2x96x128 : Shape := ⟨3, ![2, 96, 128]⟩
abbrev S2x96 : Shape := ⟨2, ![2, 96]⟩
abbrev S96x4096x2x128 : Shape := ⟨4, ![96, 4096, 2, 128]⟩
abbrev S96x4096x2 : Shape := ⟨3, ![96, 4096, 2]⟩
abbrev S96x2x12x128 : Shape := ⟨4, ![96, 2, 12, 128]⟩
abbrev S_ : Shape := ⟨0, ![]⟩
abbrev S96x2x16x128 : Shape := ⟨4, ![96, 2, 16, 128]⟩
abbrev S96x2x4096x128 : Shape := ⟨4, ![96, 2, 4096, 128]⟩
abbrev S96x2x4096 : Shape := ⟨3, ![96, 2, 4096]⟩
abbrev S96x2x128 : Shape := ⟨3, ![96, 2, 128]⟩
abbrev S96x2 : Shape := ⟨2, ![96, 2]⟩
abbrev S96x1x128 : Shape := ⟨3, ![96, 1, 128]⟩
abbrev S1x2x16x128 : Shape := ⟨4, ![1, 2, 16, 128]⟩
abbrev S1x2x4096x128 : Shape := ⟨4, ![1, 2, 4096, 128]⟩
abbrev S1x2x4096 : Shape := ⟨3, ![1, 2, 4096]⟩
abbrev S1x2x128 : Shape := ⟨3, ![1, 2, 128]⟩
abbrev S1x1x128 : Shape := ⟨3, ![1, 1, 128]⟩
abbrev S1 : Shape := ⟨1, ![1]⟩
abbrev S16x4096 : Shape := ⟨2, ![16, 4096]⟩
abbrev S1x1x16x128 : Shape := ⟨4, ![1, 1, 16, 128]⟩
abbrev S16x128 : Shape := ⟨2, ![16, 128]⟩
abbrev S1x1x4096x128 : Shape := ⟨4, ![1, 1, 4096, 128]⟩
abbrev S4096x128 : Shape := ⟨2, ![4096, 128]⟩
abbrev S1x1x4096 : Shape := ⟨3, ![1, 1, 4096]⟩
abbrev S1x4096 : Shape := ⟨2, ![1, 4096]⟩
abbrev S1x128 : Shape := ⟨2, ![1, 128]⟩
abbrev S128x128 : Shape := ⟨2, ![128, 128]⟩
abbrev S16x1 : Shape := ⟨2, ![16, 1]⟩
abbrev S1x1 : Shape := ⟨2, ![1, 1]⟩
abbrev S16 : Shape := ⟨1, ![16]⟩
abbrev S1x16x128 : Shape := ⟨3, ![1, 16, 128]⟩
abbrev S2x16x128 : Shape := ⟨3, ![2, 16, 128]⟩
abbrev S1x1x1x1 : Shape := ⟨4, ![1, 1, 1, 1]⟩
abbrev S1x1x1 : Shape := ⟨3, ![1, 1, 1]⟩
abbrev S96x1x1 : Shape := ⟨3, ![96, 1, 1]⟩
abbrev S96x1 : Shape := ⟨2, ![96, 1]⟩
abbrev S96x1x3072 : Shape := ⟨3, ![96, 1, 3072]⟩

abbrev nBuf : Space → Nat
  | .hbm => 54
  | .vmem => 18
  | .smem => 3
  | _ => 0

abbrev bufTy : (tb : Table) → Fin (tcTables nBuf tb) → BufTy
  | .hbm, ⟨0, _⟩ => ⟨S96x3072, .bf16⟩
  | .hbm, ⟨1, _⟩ => ⟨S96, .i32⟩
  | .hbm, ⟨2, _⟩ => ⟨S2x96x128, .i8⟩
  | .hbm, ⟨3, _⟩ => ⟨S2x96, .f32⟩
  | .hbm, ⟨4, _⟩ => ⟨S2x96x128, .i8⟩
  | .hbm, ⟨5, _⟩ => ⟨S2x96, .f32⟩
  | .hbm, ⟨6, _⟩ => ⟨S96x4096x2x128, .i8⟩
  | .hbm, ⟨7, _⟩ => ⟨S96x4096x2x128, .i8⟩
  | .hbm, ⟨8, _⟩ => ⟨S96x4096x2, .f32⟩
  | .hbm, ⟨9, _⟩ => ⟨S96x4096x2, .f32⟩
  | .hbm, ⟨10, _⟩ => ⟨S96x2x12x128, .bf16⟩
  | .hbm, ⟨11, _⟩ => ⟨S_, .i32⟩
  | .hbm, ⟨12, _⟩ => ⟨S_, .bf16⟩
  | .hbm, ⟨13, _⟩ => ⟨S96x2x16x128, .bf16⟩
  | .hbm, ⟨14, _⟩ => ⟨S96x2x4096x128, .i8⟩
  | .hbm, ⟨15, _⟩ => ⟨S96x2x4096x128, .i8⟩
  | .hbm, ⟨16, _⟩ => ⟨S96x2x4096, .f32⟩
  | .hbm, ⟨17, _⟩ => ⟨S96x2x4096, .f32⟩
  | .hbm, ⟨18, _⟩ => ⟨S96x2x128, .i8⟩
  | .hbm, ⟨19, _⟩ => ⟨S96x2, .f32⟩
  | .hbm, ⟨20, _⟩ => ⟨S96x2x128, .i8⟩
  | .hbm, ⟨21, _⟩ => ⟨S96x2, .f32⟩
  | .hbm, ⟨22, _⟩ => ⟨S96x2x16x128, .f32⟩
  | .hbm, ⟨23, _⟩ => ⟨S96x1x128, .f32⟩
  | .hbm, ⟨24, _⟩ => ⟨S96x2x12x128, .f32⟩
  | .hbm, ⟨25, _⟩ => ⟨S96x3072, .f32⟩
  | .hbm, ⟨26, _⟩ => ⟨S96x3072, .i32⟩
  | .hbm, ⟨27, _⟩ => ⟨S96x3072, .i8⟩
  | .hbm, ⟨28, _⟩ => ⟨S96x1x1, .f32⟩
  | .hbm, ⟨29, _⟩ => ⟨S96x1, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S96, .i32⟩
  | .hbm, ⟨37, _⟩ => ⟨S96, .i32⟩
  | .hbm, ⟨38, _⟩ => ⟨S_, .i32⟩
  | .hbm, ⟨39, _⟩ => ⟨S96, .i32⟩
  | .hbm, ⟨40, _⟩ => ⟨S96, .i1⟩
  | .hbm, ⟨41, _⟩ => ⟨S_, .i32⟩
  | .hbm, ⟨42, _⟩ => ⟨S96, .i32⟩
  | .hbm, ⟨43, _⟩ => ⟨S96, .i1⟩
  | .hbm, ⟨44, _⟩ => ⟨S_, .i32⟩
  | .hbm, ⟨45, _⟩ => ⟨S_, .i1⟩
  | .hbm, ⟨46, _⟩ => ⟨S96, .i1⟩
  | .hbm, ⟨47, _⟩ => ⟨S96, .i1⟩
  | .hbm, ⟨48, _⟩ => ⟨S96, .i1⟩
  | .hbm, ⟨49, _⟩ => ⟨S96, .i32⟩
  | .hbm, ⟨50, _⟩ => ⟨S96, .i32⟩
  | .hbm, ⟨51, _⟩ => ⟨S96, .i32⟩
  | .hbm, ⟨52, _⟩ => ⟨S96x1, .i32⟩
  | .hbm, ⟨53, _⟩ => ⟨S96x1x3072, .i8⟩
  | .local _ .vmem, ⟨0, _⟩ => ⟨S1x2x16x128, .bf16⟩
  | .local _ .vmem, ⟨1, _⟩ => ⟨S1x2x16x128, .bf16⟩
  | .local _ .vmem, ⟨2, _⟩ => ⟨S1x2x4096x128, .i8⟩
  | .local _ .vmem, ⟨3, _⟩ => ⟨S1x2x4096x128, .i8⟩
  | .local _ .vmem, ⟨4, _⟩ => ⟨S1x2x4096, .f32⟩
  | .local _ .vmem, ⟨5, _⟩ => ⟨S1x2x4096, .f32⟩
  | .local _ .vmem, ⟨6, _⟩ => ⟨S1x2x4096x128, .i8⟩
  | .local _ .vmem, ⟨7, _⟩ => ⟨S1x2x4096x128, .i8⟩
  | .local _ .vmem, ⟨8, _⟩ => ⟨S1x2x4096, .f32⟩
  | .local _ .vmem, ⟨9, _⟩ => ⟨S1x2x4096, .f32⟩
  | .local _ .vmem, ⟨10, _⟩ => ⟨S1x2x128, .i8⟩
  | .local _ .vmem, ⟨11, _⟩ => ⟨S1x2x128, .i8⟩
  | .local _ .vmem, ⟨12, _⟩ => ⟨S1x2x128, .i8⟩
  | .local _ .vmem, ⟨13, _⟩ => ⟨S1x2x128, .i8⟩
  | .local _ .vmem, ⟨14, _⟩ => ⟨S1x2x16x128, .f32⟩
  | .local _ .vmem, ⟨15, _⟩ => ⟨S1x2x16x128, .f32⟩
  | .local _ .vmem, ⟨16, _⟩ => ⟨S1x1x128, .f32⟩
  | .local _ .vmem, ⟨17, _⟩ => ⟨S1x1x128, .f32⟩
  | .local _ .smem, ⟨0, _⟩ => ⟨S96, .i32⟩
  | .local _ .smem, ⟨1, _⟩ => ⟨S96x2, .f32⟩
  | .local _ .smem, ⟨2, _⟩ => ⟨S96x2, .f32⟩
  | _, _ => ⟨S96x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg7_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![96], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v31 : Index := Scalar.indexCast arg0
  let c0_16 : Index := 0#32
  ![v31.toNat, 0]
def k0_off3 (i : grid0.Coords) : Fin 2 → Nat :=
  let arg0 : BitVec 32 := BitVec.ofNat 32 (i 0).val
  let v95 : Index := Scalar.indexCast arg0
  let c1_49 : Index := 1#32
  ![v95.toNat, 1]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x4096x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4096x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S96x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S96x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnRefIdeal.lean ====
abbrev S96x3072 : Shape := ⟨2, ![96, 3072]⟩
abbrev S96 : Shape := ⟨1, ![96]⟩
abbrev S2x96x128 : Shape := ⟨3, ![2, 96, 128]⟩
abbrev S2x96 : Shape := ⟨2, ![2, 96]⟩
abbrev S96x4096x2x128 : Shape := ⟨4, ![96, 4096, 2, 128]⟩
abbrev S96x4096x2 : Shape := ⟨3, ![96, 4096, 2]⟩
abbrev S96x1 : Shape := ⟨2, ![96, 1]⟩
abbrev S1 : Shape := ⟨1, ![1]⟩
abbrev S1x1 : Shape := ⟨2, ![1, 1]⟩
abbrev S_ : Shape := ⟨0, ![]⟩
abbrev S96x2x128 : Shape := ⟨3, ![96, 2, 128]⟩
abbrev S96x1x2x128 : Shape := ⟨4, ![96, 1, 2, 128]⟩
abbrev S96x2 : Shape := ⟨2, ![96, 2]⟩
abbrev S96x1x2 : Shape := ⟨3, ![96, 1, 2]⟩
abbrev S96x1x2x12x128 : Shape := ⟨5, ![96, 1, 2, 12, 128]⟩
abbrev S96x2x4096 : Shape := ⟨3, ![96, 2, 4096]⟩
abbrev S96x1x2x1x4096 : Shape := ⟨5, ![96, 1, 2, 1, 4096]⟩
abbrev S96x2x1 : Shape := ⟨3, ![96, 2, 1]⟩
abbrev S96x1x2x1x1 : Shape := ⟨5, ![96, 1, 2, 1, 1]⟩
abbrev S96x2x4096x1x12 : Shape := ⟨5, ![96, 2, 4096, 1, 12]⟩
abbrev S96x1x2x12x4096 : Shape := ⟨5, ![96, 1, 2, 12, 4096]⟩
abbrev S96x2x1x1x12 : Shape := ⟨5, ![96, 2, 1, 1, 12]⟩
abbrev S96x1x2x12x1 : Shape := ⟨5, ![96, 1, 2, 12, 1]⟩
abbrev S4096 : Shape := ⟨1, ![4096]⟩
abbrev S1x4096 : Shape := ⟨2, ![1, 4096]⟩
abbrev S96x4096 : Shape := ⟨2, ![96, 4096]⟩
abbrev S96x1x4096 : Shape := ⟨3, ![96, 1, 4096]⟩
abbrev S96x1x1 : Shape := ⟨3, ![96, 1, 1]⟩
abbrev S96x1x1x1x4096 : Shape := ⟨5, ![96, 1, 1, 1, 4096]⟩
abbrev S1x1x1x1x1 : Shape := ⟨5, ![1, 1, 1, 1, 1]⟩
abbrev S96x1x2x12 : Shape := ⟨4, ![96, 1, 2, 12]⟩
abbrev S96x2x128x1x12 : Shape := ⟨5, ![96, 2, 128, 1, 12]⟩
abbrev S96x1x3072 : Shape := ⟨3, ![96, 1, 3072]⟩

abbrev nBuf : Space → Nat
  | .hbm => 211
  | .vmem => 0
  | .smem => 0
  | _ => 0

abbrev hbmTy0_0 (i : Nat) : BufTy := match i % 128 with
  | 0 => ⟨S96x3072, .bf16⟩
  | 1 => ⟨S96, .i32⟩
  | 2 => ⟨S2x96x128, .i8⟩
  | 3 => ⟨S2x96, .f32⟩
  | 4 => ⟨S2x96x128, .i8⟩
  | 5 => ⟨S2x96, .f32⟩
  | 6 => ⟨S96x4096x2x128, .i8⟩
  | 7 => ⟨S96x4096x2x128, .i8⟩
  | 8 => ⟨S96x4096x2, .f32⟩
  | 9 => ⟨S96x4096x2, .f32⟩
  | 10 => ⟨S96x1, .i32⟩
  | 11 => ⟨S1, .i32⟩
  | 12 => ⟨S1x1, .i32⟩
  | 13 => ⟨S96x1, .i32⟩
  | 14 => ⟨S96x1, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S96x1, .i32⟩
  | 22 => ⟨S96x1, .i32⟩
  | 23 => ⟨S_, .i32⟩
  | 24 => ⟨S96x1, .i32⟩
  | 25 => ⟨S96x1, .i1⟩
  | 26 => ⟨S_, .i32⟩
  | 27 => ⟨S96x1, .i32⟩
  | 28 => ⟨S96x1, .i1⟩
  | 29 => ⟨S_, .i32⟩
  | 30 => ⟨S_, .i1⟩
  | 31 => ⟨S96x1, .i1⟩
  | 32 => ⟨S96x1, .i1⟩
  | 33 => ⟨S96x1, .i1⟩
  | 34 => ⟨S96x1, .i32⟩
  | 35 => ⟨S96x1, .i32⟩
  | 36 => ⟨S96x1, .i32⟩
  | 37 => ⟨S96x2x128, .i8⟩
  | 38 => ⟨S96x1x2x128, .i8⟩
  | 39 => ⟨S96x2x128, .i8⟩
  | 40 => ⟨S96x1x2x128, .i8⟩
  | 41 => ⟨S96x2, .f32⟩
  | 42 => ⟨S96x1x2, .f32⟩
  | 43 => ⟨S96x2, .f32⟩
  | 44 => ⟨S96x1x2, .f32⟩
  | 45 => ⟨S96x1x2x12x128, .bf16⟩
  | 46 => ⟨S96x4096x2x128, .i32⟩
  | 47 => ⟨S96x4096x2x128, .f32⟩
  | 48 => ⟨S96x4096x2x128, .bf16⟩
  | 49 => ⟨S96x4096x2x128, .i32⟩
  | 50 => ⟨S96x4096x2x128, .f32⟩
  | 51 => ⟨S96x4096x2x128, .bf16⟩
  | 52 => ⟨S96x2x4096, .f32⟩
  | 53 => ⟨S96x1x2x1x4096, .f32⟩
  | 54 => ⟨S96x2x4096, .f32⟩
  | 55 => ⟨S96x1x2x1x4096, .f32⟩
  | 56 => ⟨S96x2x1, .f32⟩
  | 57 => ⟨S96x1x2x1x1, .f32⟩
  | 58 => ⟨S96x2x1, .f32⟩
  | 59 => ⟨S96x1x2x1x1, .f32⟩
  | 60 => ⟨S96x2x4096x1x12, .f32⟩
  | 61 => ⟨S96x1x2x12x4096, .f32⟩
  | 62 => ⟨S96x1x2x12x4096, .f32⟩
  | 63 => ⟨S96x1x2x12x4096, .f32⟩
  | 64 => ⟨S_, .f32⟩
  | 65 => ⟨S96x1x2x12x4096, .f32⟩
  | 66 => ⟨S96x1x2x12x4096, .f32⟩
  | 67 => ⟨S96x1x2x128, .i32⟩
  | 68 => ⟨S96x1x2x128, .f32⟩
  | 69 => ⟨S96x1x2x128, .bf16⟩
  | 70 => ⟨S96x2x1x1x12, .f32⟩
  | 71 => ⟨S96x1x2x12x1, .f32⟩
  | 72 => ⟨S96x1x2x12x1, .f32⟩
  | 73 => ⟨S96x1x2x12x1, .f32⟩
  | 74 => ⟨S_, .f32⟩
  | 75 => ⟨S96x1x2x12x1, .f32⟩
  | 76 => ⟨S96x1x2x12x1, .f32⟩
  | 77 => ⟨S4096, .i32⟩
  | 78 => ⟨S96x1, .i32⟩
  | 79 => ⟨S_, .i32⟩
  | 80 => ⟨S96x1, .i32⟩
  | 81 => ⟨S96x1, .i32⟩
  | 82 => ⟨S96x1, .i32⟩
  | 83 => ⟨S_, .i32⟩
  | 84 => ⟨S96x1, .i32⟩
  | 85 => ⟨S96x1, .i32⟩
  | 86 => ⟨S1x4096, .i32⟩
  | 87 => ⟨S96x4096, .i32⟩
  | 88 => ⟨S96x4096, .i32⟩
  | 89 => ⟨S96x4096, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S96x4096, .i32⟩
  | 97 => ⟨S96x4096, .i32⟩
  | 98 => ⟨S_, .i32⟩
  | 99 => ⟨S96x4096, .i32⟩
  | 100 => ⟨S96x4096, .i1⟩
  | 101 => ⟨S_, .i32⟩
  | 102 => ⟨S96x4096, .i32⟩
  | 103 => ⟨S96x4096, .i1⟩
  | 104 => ⟨S_, .i32⟩
  | 105 => ⟨S_, .i1⟩
  | 106 => ⟨S96x4096, .i1⟩
  | 107 => ⟨S96x4096, .i1⟩
  | 108 => ⟨S96x4096, .i1⟩
  | 109 => ⟨S96x4096, .i32⟩
  | 110 => ⟨S96x4096, .i32⟩
  | 111 => ⟨S96x4096, .i32⟩
  | 112 => ⟨S96x4096, .i32⟩
  | 113 => ⟨S96x4096, .i32⟩
  | 114 => ⟨S_, .i32⟩
  | 115 => ⟨S96x4096, .i32⟩
  | 116 => ⟨S96x4096, .i1⟩
  | 117 => ⟨S96x1x4096, .i1⟩
  | 118 => ⟨S96x1x4096, .i32⟩
  | 119 => ⟨S96x1x1, .i32⟩
  | 120 => ⟨S_, .i32⟩
  | 121 => ⟨S96x1x1, .i32⟩
  | 122 => ⟨S96x1x1, .i32⟩
  | 123 => ⟨S96x1x4096, .i32⟩
  | 124 => ⟨S96x1x4096, .i1⟩
  | 125 => ⟨S96x1x4096, .i1⟩
  | 126 => ⟨S1, .i32⟩
  | 127 => ⟨S1x1, .i32⟩
  | _ => ⟨S96x3072, .bf16⟩

abbrev hbmTy0_1 (i : Nat) : BufTy := match i % 128 with
  | 0 => ⟨S1, .i32⟩
  | 1 => ⟨S1x1, .i32⟩
  | 2 => ⟨S1x1, .i1⟩
  | 3 => ⟨S96x1x1x1x4096, .i1⟩
  | 4 => ⟨S_, .f32⟩
  | 5 => ⟨S_, .f32⟩
  | 6 => ⟨S96x1x2x12x4096, .i1⟩
  | 7 => ⟨S96x1x2x12x4096, .f32⟩
  | 8 => ⟨S96x1x2x12x4096, .f32⟩
  | 9 => ⟨S1x1x1x1x1, .i1⟩
  | 10 => ⟨S_, .f32⟩
  | 11 => ⟨S_, .f32⟩
  | 12 => ⟨S96x1x2x12x1, .i1⟩
  | 13 => ⟨S96x1x2x12x1, .f32⟩
  | 14 => ⟨S96x1x2x12x1, .f32⟩
  | 15 => ⟨S_, .f32⟩
  | 16 => ⟨S96x1x2x12, .f32⟩
  | 17 => ⟨S_, .f32⟩
  | 18 => ⟨S96x1x2x12, .f32⟩
  | 19 => ⟨S96x1x2x12, .f32⟩
  | 20 => ⟨S96x1x2x12, .f32⟩
  | 21 => ⟨S96x1x2x12x1, .f32⟩
  | 22 => ⟨S96x1x2x12x4096, .f32⟩
  | 23 => ⟨S96x1x2x12x4096, .f32⟩
  | 24 => ⟨S_, .f32⟩
  | 25 => ⟨S96x1x2x12x4096, .f32⟩
  | 26 => ⟨S96x1x2x12x4096, .f32⟩
  | 27 => ⟨S96x1x2x12x4096, .f32⟩
  | 28 => ⟨S96x1x2x12x1, .f32⟩
  | 29 => ⟨S_, .f32⟩
  | 30 => ⟨S96x1x2x12x1, .f32⟩
  | 31 => ⟨S96x1x2x12x1, .f32⟩
  | 32 => ⟨S96x1x2x12x1, .f32⟩
  | 33 => ⟨S_, .f32⟩
  | 34 => ⟨S96x1x2x12, .f32⟩
  | 35 => ⟨S_, .f32⟩
  | 36 => ⟨S96x1x2x12, .f32⟩
  | 37 => ⟨S96x1x2x12, .f32⟩
  | 38 => ⟨S96x1x2x12x4096, .f32⟩
  | 39 => ⟨S96x1x2x12x4096, .f32⟩
  | 40 => ⟨S96x1x2x12x4096, .bf16⟩
  | 41 => ⟨S96x2x128x1x12, .f32⟩
  | 42 => ⟨S96x1x2x12x128, .f32⟩
  | 43 => ⟨S96x1x2x12x1, .f32⟩
  | 44 => ⟨S96x1x2x12x1, .f32⟩
  | 45 => ⟨S96x1x2x12x1, .bf16⟩
  | 46 => ⟨S96x1x2x128, .i32⟩
  | 47 => ⟨S96x1x2x128, .f32⟩
  | 48 => ⟨S96x1x2x128, .bf16⟩
  | 49 => ⟨S96x2x128x1x12, .f32⟩
  | 50 => ⟨S96x1x2x12x128, .f32⟩
  | 51 => ⟨S96x1x2x12x128, .f32⟩
  | 52 => ⟨S96x1x2x12x1, .f32⟩
  | 53 => ⟨S96x1x2x12x128, .f32⟩
  | 54 => ⟨S96x1x2x12x128, .f32⟩
  | 55 => ⟨S96x1x3072, .f32⟩
  | 56 => ⟨S96x1x3072, .f32⟩
  | 57 => ⟨S_, .f32⟩
  | 58 => ⟨S96x1, .f32⟩
  | 59 => ⟨S_, .f32⟩
  | 60 => ⟨S96x1, .f32⟩
  | 61 => ⟨S96x1, .i1⟩
  | 62 => ⟨S_, .f32⟩
  | 63 => ⟨S96x1, .f32⟩
  | 64 => ⟨S96x1, .f32⟩
  | 65 => ⟨S_, .f32⟩
  | 66 => ⟨S_, .f32⟩
  | 67 => ⟨S96x1, .f32⟩
  | 68 => ⟨S96x1, .f32⟩
  | 69 => ⟨S96x1x1, .f32⟩
  | 70 => ⟨S96x1x3072, .f32⟩
  | 71 => ⟨S96x1x3072, .f32⟩
  | 72 => ⟨S96x1x3072, .f32⟩
  | 73 => ⟨S_, .i32⟩
  | 74 => ⟨S_, .i32⟩
  | 75 => ⟨S_, .f32⟩
  | 76 => ⟨S96x1x3072, .f32⟩
  | 77 => ⟨S96x1x3072, .f32⟩
  | 78 => ⟨S_, .f32⟩
  | 79 => ⟨S96x1x3072, .f32⟩
  | 80 => ⟨S96x1x3072, .f32⟩
  | 81 => ⟨S96x1x3072, .i32⟩
  | 82 => ⟨S96x1x3072, .i8⟩
  | _ => ⟨S96x3072, .bf16⟩

abbrev hbmTy (i : Nat) : BufTy := match i / 128 with
  | 0 => hbmTy0_0 i
  | 1 => hbmTy0_1 i
  | _ => ⟨S96x3072, .bf16⟩

abbrev bufTy : (tb : Table) → Fin (tcTables nBuf tb) → BufTy
  | .hbm, ⟨i, _⟩ => hbmTy i
  | _, _ => ⟨S96x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_1 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_2 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_3 : Ref sig .tc := ⟨.hbm, 90, rfl⟩
abbrev main_call1_v0 : Ref sig .tc := ⟨.hbm, 91, rfl⟩
abbrev main_call1_c : Ref sig .tc := ⟨.hbm, 92, rfl⟩
abbrev main_call1_v1 : Ref sig .tc := ⟨.hbm, 93, rfl⟩
abbrev main_call1_c_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_c_1 : Ref sig .tc := ⟨.hbm, 98, rfl⟩
abbrev main_call1_v5 : Ref sig .tc := ⟨.hbm, 99, rfl⟩
abbrev main_call1_v6 : Ref sig .tc := ⟨.hbm, 100, rfl⟩
abbrev main_call1_c_2 : Ref sig .tc := ⟨.hbm, 101, rfl⟩
abbrev main_call1_v7 : Ref sig .tc := ⟨.hbm, 102, rfl⟩
abbrev main_call1_v8 : Ref sig .tc := ⟨.hbm, 103, rfl⟩
abbrev main_call1_c_3 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_v12 : Ref sig .tc := ⟨.hbm, 108, rfl⟩
abbrev main_call1_v13 : Ref sig .tc := ⟨.hbm, 109, rfl⟩
abbrev main_call1_v14 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_4 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_c_5 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_cst_6 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v74 : Ref sig .tc := ⟨.hbm, 136, rfl⟩
abbrev main_v75 : Ref sig .tc := ⟨.hbm, 137, rfl⟩
abbrev main_cst_7 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v76 : Ref sig .tc := ⟨.hbm, 142, rfl⟩
abbrev main_cst_8 : Ref sig .tc := ⟨.hbm, 143, rfl⟩
abbrev main_v77 : Ref sig .tc := ⟨.hbm, 144, rfl⟩
abbrev main_cst_9 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_10 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_11 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_12 : Ref sig .tc := ⟨.hbm, 161, rfl⟩
abbrev main_v91 : Ref sig .tc := ⟨.hbm, 162, rfl⟩
abbrev main_cst_13 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_cst_14 : Ref sig .tc := ⟨.hbm, 185, rfl⟩
abbrev main_v113 : Ref sig .tc := ⟨.hbm, 186, rfl⟩
abbrev main_cst_15 : Ref sig .tc := ⟨.hbm, 187, rfl⟩
abbrev main_v114 : Ref sig .tc := ⟨.hbm, 188, rfl⟩
abbrev main_v115 : Ref sig .tc := ⟨.hbm, 189, rfl⟩
abbrev main_cst_16 : Ref sig .tc := ⟨.hbm, 190, rfl⟩
abbrev main_v116 : Ref sig .tc := ⟨.hbm, 191, rfl⟩
abbrev main_v117 : Ref sig .tc := ⟨.hbm, 192, rfl⟩
abbrev main_cst_17 : Ref sig .tc := ⟨.hbm, 193, rfl⟩
abbrev main_call4_v0 : Ref sig .tc := ⟨.hbm, 194, rfl⟩
abbrev main_call4_v1 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_c_18 : Ref sig .tc := ⟨.hbm, 201, rfl⟩
abbrev main_c_19 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩

abbrev nD : Nat := 1
abbrev τ : Topo := Topo.v7x

variable {F : FTy → Type} [FloatOps F]
-- ==== Oproj.lean ====
abbrev S96x1x6144 : Shape := ⟨3, ![96, 1, 6144]⟩
abbrev S96x3072 : Shape := ⟨2, ![96, 3072]⟩
abbrev S96x1 : Shape := ⟨2, ![96, 1]⟩
abbrev S3072x6144 : Shape := ⟨2, ![3072, 6144]⟩
abbrev S6144 : Shape := ⟨1, ![6144]⟩
abbrev S96x6144 : Shape := ⟨2, ![96, 6144]⟩
abbrev S1x6144 : Shape := ⟨2, ![1, 6144]⟩
abbrev S96x512 : Shape := ⟨2, ![96, 512]⟩
abbrev S3072x512 : Shape := ⟨2, ![3072, 512]⟩
abbrev S1x512 : Shape := ⟨2, ![1, 512]⟩
abbrev S96 : Shape := ⟨1, ![96]⟩

abbrev nBuf : Space → Nat
  | .hbm => 16
  | .vmem => 15
  | .smem => 0
  | _ => 0

abbrev bufTy : (tb : Table) → Fin (tcTables nBuf tb) → BufTy
  | .hbm, ⟨0, _⟩ => ⟨S96x1x6144, .bf16⟩
  | .hbm, ⟨1, _⟩ => ⟨S96x3072, .i8⟩
  | .hbm, ⟨2, _⟩ => ⟨S96x1, .f32⟩
  | .hbm, ⟨3, _⟩ => ⟨S3072x6144, .i8⟩
  | .hbm, ⟨4, _⟩ => ⟨S6144, .f32⟩
  | .hbm, ⟨5, _⟩ => ⟨S6144, .f32⟩
  | .hbm, ⟨6, _⟩ => ⟨S6144, .f32⟩
  | .hbm, ⟨7, _⟩ => ⟨S6144, .f32⟩
  | .hbm, ⟨8, _⟩ => ⟨S96x6144, .bf16⟩
  | .hbm, ⟨9, _⟩ => ⟨S1x6144, .f32⟩
  | .hbm, ⟨10, _⟩ => ⟨S1x6144, .f32⟩
  | .hbm, ⟨11, _⟩ => ⟨S1x6144, .f32⟩
  | .hbm, ⟨12, _⟩ => ⟨S1x6144, .f32⟩
  | .hbm, ⟨13, _⟩ => ⟨S96x6144, .f32⟩
  | .hbm, ⟨14, _⟩ => ⟨S96x6144, .i8⟩
  | .hbm, ⟨15, _⟩ => ⟨S96x1, .f32⟩
  | .local _ .vmem, ⟨0, _⟩ => ⟨S96x512, .bf16⟩
  | .local _ .vmem, ⟨1, _⟩ => ⟨S96x512, .bf16⟩
  | .local _ .vmem, ⟨2, _⟩ => ⟨S96x3072, .i8⟩
  | .local _ .vmem, ⟨3, _⟩ => ⟨S96x1, .f32⟩
  | .local _ .vmem, ⟨4, _⟩ => ⟨S3072x512, .i8⟩
  | .local _ .vmem, ⟨5, _⟩ => ⟨S3072x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x6144, .f32⟩
  | .local _ .vmem, ⟨11, _⟩ => ⟨S1x6144, .f32⟩
  | .local _ .vmem, ⟨12, _⟩ => ⟨S96x6144, .f32⟩
  | .local _ .vmem, ⟨13, _⟩ => ⟨S96x6144, .i8⟩
  | .local _ .vmem, ⟨14, _⟩ => ⟨S96x1, .f32⟩
  | _, _ => ⟨S96x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![12], ![false]⟩

def k0_mult1 (i : grid0.Coords) : BitVec 32 :=
  let arg0 : BitVec 32 := BitVec.ofNat 32 (i 0).val
  let c512_i32 : BitVec 32 := 512#32
  let v20 : BitVec 32 := Scalar.muli arg0 c512_i32
  v20
def k0_off1 (i : grid0.Coords) : Fin 2 → Nat :=
  let c0_11 : Index := 0#32
  let arg0 : BitVec 32 := BitVec.ofNat 32 (i 0).val
  let c512_i32 : BitVec 32 := 512#32
  let v20 : BitVec 32 := Scalar.muli arg0 c512_i32
  let v21 : BitVec 32 := v20
  let v22 : Index := Scalar.indexCast v21
  ![0, v22.toNat]
def k0_cond1 (i : grid0.Coords) : BitVec 1 :=
  let arg0 : BitVec 32 := BitVec.ofNat 32 (i 0).val
  let c11_i32 : BitVec 32 := 11#32
  let v24 : BitVec 1 := Scalar.cmpi .eq arg0 c11_i32
  let v25 : BitVec 32 := Scalar.extui v24
  let c0_i32 : BitVec 32 := 0#32
  let v26 : BitVec 1 := Scalar.cmpi .ne v25 c0_i32
  v26

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x6144 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OprojRefIdeal.lean ====
abbrev S96x1x6144 : Shape := ⟨3, ![96, 1, 6144]⟩
abbrev S96x3072 : Shape := ⟨2, ![96, 3072]⟩
abbrev S96x1 : Shape := ⟨2, ![96, 1]⟩
abbrev S3072x6144 : Shape := ⟨2, ![3072, 6144]⟩
abbrev S6144 : Shape := ⟨1, ![6144]⟩
abbrev S96x1x3072 : Shape := ⟨3, ![96, 1, 3072]⟩
abbrev S96x1x1 : Shape := ⟨3, ![96, 1, 1]⟩
abbrev S1x1x6144 : Shape := ⟨3, ![1, 1, 6144]⟩
abbrev S_ : Shape := ⟨0, ![]⟩
abbrev S96x6144 : Shape := ⟨2, ![96, 6144]⟩

abbrev nBuf : Space → Nat
  | .hbm => 83
  | .vmem => 0
  | .smem => 0
  | _ => 0

abbrev bufTy : (tb : Table) → Fin (tcTables nBuf tb) → BufTy
  | .hbm, ⟨0, _⟩ => ⟨S96x1x6144, .bf16⟩
  | .hbm, ⟨1, _⟩ => ⟨S96x3072, .i8⟩
  | .hbm, ⟨2, _⟩ => ⟨S96x1, .f32⟩
  | .hbm, ⟨3, _⟩ => ⟨S3072x6144, .i8⟩
  | .hbm, ⟨4, _⟩ => ⟨S6144, .f32⟩
  | .hbm, ⟨5, _⟩ => ⟨S6144, .f32⟩
  | .hbm, ⟨6, _⟩ => ⟨S6144, .f32⟩
  | .hbm, ⟨7, _⟩ => ⟨S6144, .f32⟩
  | .hbm, ⟨8, _⟩ => ⟨S96x1x6144, .f32⟩
  | .hbm, ⟨9, _⟩ => ⟨S96x1x3072, .i8⟩
  | .hbm, ⟨10, _⟩ => ⟨S96x1x3072, .i32⟩
  | .hbm, ⟨11, _⟩ => ⟨S96x1x3072, .f32⟩
  | .hbm, ⟨12, _⟩ => ⟨S96x1x3072, .bf16⟩
  | .hbm, ⟨13, _⟩ => ⟨S3072x6144, .i32⟩
  | .hbm, ⟨14, _⟩ => ⟨S3072x6144, .f32⟩
  | .hbm, ⟨15, _⟩ => ⟨S3072x6144, .bf16⟩
  | .hbm, ⟨16, _⟩ => ⟨S96x1x6144, .f32⟩
  | .hbm, ⟨17, _⟩ => ⟨S96x1x1, .f32⟩
  | .hbm, ⟨18, _⟩ => ⟨S96x1x6144, .f32⟩
  | .hbm, ⟨19, _⟩ => ⟨S96x1x6144, .f32⟩
  | .hbm, ⟨20, _⟩ => ⟨S1x1x6144, .f32⟩
  | .hbm, ⟨21, _⟩ => ⟨S96x1x6144, .f32⟩
  | .hbm, ⟨22, _⟩ => ⟨S96x1x6144, .f32⟩
  | .hbm, ⟨23, _⟩ => ⟨S1x1x6144, .f32⟩
  | .hbm, ⟨24, _⟩ => ⟨S96x1x6144, .f32⟩
  | .hbm, ⟨25, _⟩ => ⟨S96x1x6144, .f32⟩
  | .hbm, ⟨26, _⟩ => ⟨S96x1x6144, .f32⟩
  | .hbm, ⟨27, _⟩ => ⟨S_, .f32⟩
  | .hbm, ⟨28, _⟩ => ⟨S96x1, .f32⟩
  | .hbm, ⟨29, _⟩ => ⟨S96x1x1, .f32⟩
  | .hbm, ⟨30, _⟩ => ⟨S_, .f32⟩
  | .hbm, ⟨31, _⟩ => ⟨S96x1x1, .f32⟩
  | .hbm, ⟨32, _⟩ => ⟨S96x1x1, .f32⟩
  | .hbm, ⟨33, _⟩ => ⟨S96x1x6144, .f32⟩
  | .hbm, ⟨34, _⟩ => ⟨S96x1x6144, .f32⟩
  | .hbm, ⟨35, _⟩ => ⟨S96x1x6144, .f32⟩
  | .hbm, ⟨36, _⟩ => ⟨S_, .f32⟩
  | .hbm, ⟨37, _⟩ => ⟨S96x1, .f32⟩
  | .hbm, ⟨38, _⟩ => ⟨S96x1x1, .f32⟩
  | .hbm, ⟨39, _⟩ => ⟨S_, .f32⟩
  | .hbm, ⟨40, _⟩ => ⟨S96x1x1, .f32⟩
  | .hbm, ⟨41, _⟩ => ⟨S96x1x1, .f32⟩
  | .hbm, ⟨42, _⟩ => ⟨S_, .f32⟩
  | .hbm, ⟨43, _⟩ => ⟨S96x1x1, .f32⟩
  | .hbm, ⟨44, _⟩ => ⟨S96x1x1, .f32⟩
  | .hbm, ⟨45, _⟩ => ⟨S96x1x1, .f32⟩
  | .hbm, ⟨46, _⟩ => ⟨S96x1x6144, .f32⟩
  | .hbm, ⟨47, _⟩ => ⟨S96x1x6144, .f32⟩
  | .hbm, ⟨48, _⟩ => ⟨S1x1x6144, .f32⟩
  | .hbm, ⟨49, _⟩ => ⟨S96x1x6144, .f32⟩
  | .hbm, ⟨50, _⟩ => ⟨S96x1x6144, .f32⟩
  | .hbm, ⟨51, _⟩ => ⟨S1x1x6144, .f32⟩
  | .hbm, ⟨52, _⟩ => ⟨S96x1x6144, .f32⟩
  | .hbm, ⟨53, _⟩ => ⟨S96x1x6144, .f32⟩
  | .hbm, ⟨54, _⟩ => ⟨S96x1x6144, .f32⟩
  | .hbm, ⟨55, _⟩ => ⟨S_, .f32⟩
  | .hbm, ⟨56, _⟩ => ⟨S96x1, .f32⟩
  | .hbm, ⟨57, _⟩ => ⟨S_, .f32⟩
  | .hbm, ⟨58, _⟩ => ⟨S96x1, .f32⟩
  | .hbm, ⟨59, _⟩ => ⟨S96x1, .i1⟩
  | .hbm, ⟨60, _⟩ => ⟨S_, .f32⟩
  | .hbm, ⟨61, _⟩ => ⟨S96x1, .f32⟩
  | .hbm, ⟨62, _⟩ => ⟨S96x1, .f32⟩
  | .hbm, ⟨63, _⟩ => ⟨S_, .f32⟩
  | .hbm, ⟨64, _⟩ => ⟨S_, .f32⟩
  | .hbm, ⟨65, _⟩ => ⟨S96x1, .f32⟩
  | .hbm, ⟨66, _⟩ => ⟨S96x1, .f32⟩
  | .hbm, ⟨67, _⟩ => ⟨S96x1x1, .f32⟩
  | .hbm, ⟨68, _⟩ => ⟨S96x1x6144, .f32⟩
  | .hbm, ⟨69, _⟩ => ⟨S96x1x6144, .f32⟩
  | .hbm, ⟨70, _⟩ => ⟨S96x1x6144, .f32⟩
  | .hbm, ⟨71, _⟩ => ⟨S_, .i32⟩
  | .hbm, ⟨72, _⟩ => ⟨S_, .i32⟩
  | .hbm, ⟨73, _⟩ => ⟨S_, .f32⟩
  | .hbm, ⟨74, _⟩ => ⟨S96x1x6144, .f32⟩
  | .hbm, ⟨75, _⟩ => ⟨S96x1x6144, .f32⟩
  | .hbm, ⟨76, _⟩ => ⟨S_, .f32⟩
  | .hbm, ⟨77, _⟩ => ⟨S96x1x6144, .f32⟩
  | .hbm, ⟨78, _⟩ => ⟨S96x1x6144, .f32⟩
  | .hbm, ⟨79, _⟩ => ⟨S96x1x6144, .i32⟩
  | .hbm, ⟨80, _⟩ => ⟨S96x1x6144, .i8⟩
  | .hbm, ⟨81, _⟩ => ⟨S96x6144, .f32⟩
  | .hbm, ⟨82, _⟩ => ⟨S96x6144, .i8⟩
  | _, _ => ⟨S96x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c : Ref sig .tc := ⟨.hbm, 71, rfl⟩
abbrev main_c_8 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Fc.lean ====
abbrev S96x6144 : Shape := ⟨2, ![96, 6144]⟩
abbrev S96x1 : Shape := ⟨2, ![96, 1]⟩
abbrev S6144x12288 : Shape := ⟨2, ![6144, 12288]⟩
abbrev S12288 : Shape := ⟨1, ![12288]⟩
abbrev S1x12288 : Shape := ⟨2, ![1, 12288]⟩
abbrev S96x12288 : Shape := ⟨2, ![96, 12288]⟩
abbrev S6144x512 : Shape := ⟨2, ![6144, 512]⟩
abbrev S1x512 : Shape := ⟨2, ![1, 512]⟩
abbrev S96x512 : Shape := ⟨2, ![96, 512]⟩
abbrev S96 : Shape := ⟨1, ![96]⟩
abbrev S96x1x12288 : Shape := ⟨3, ![96, 1, 12288]⟩

abbrev nBuf : Space → Nat
  | .hbm => 10
  | .vmem => 11
  | .smem => 0
  | _ => 0

abbrev bufTy : (tb : Table) → Fin (tcTables nBuf tb) → BufTy
  | .hbm, ⟨0, _⟩ => ⟨S96x6144, .i8⟩
  | .hbm, ⟨1, _⟩ => ⟨S96x1, .f32⟩
  | .hbm, ⟨2, _⟩ => ⟨S6144x12288, .i8⟩
  | .hbm, ⟨3, _⟩ => ⟨S12288, .f32⟩
  | .hbm, ⟨4, _⟩ => ⟨S12288, .f32⟩
  | .hbm, ⟨5, _⟩ => ⟨S1x12288, .f32⟩
  | .hbm, ⟨6, _⟩ => ⟨S1x12288, .f32⟩
  | .hbm, ⟨7, _⟩ => ⟨S96x12288, .i8⟩
  | .hbm, ⟨8, _⟩ => ⟨S96x1, .f32⟩
  | .hbm, ⟨9, _⟩ => ⟨S96x1x12288, .i8⟩
  | .local _ .vmem, ⟨0, _⟩ => ⟨S96x6144, .i8⟩
  | .local _ .vmem, ⟨1, _⟩ => ⟨S96x1, .f32⟩
  | .local _ .vmem, ⟨2, _⟩ => ⟨S6144x512, .i8⟩
  | .local _ .vmem, ⟨3, _⟩ => ⟨S6144x512, .i8⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S96x12288, .i8⟩
  | .local _ .vmem, ⟨9, _⟩ => ⟨S96x1, .f32⟩
  | .local _ .vmem, ⟨10, _⟩ => ⟨S96x12288, .f32⟩
  | _, _ => ⟨S96x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![24], ![false]⟩

def k0_mult1 (i : grid0.Coords) : BitVec 32 :=
  let arg0 : BitVec 32 := BitVec.ofNat 32 (i 0).val
  let c512_i32 : BitVec 32 := 512#32
  let v29 : BitVec 32 := Scalar.muli arg0 c512_i32
  v29
def k0_off1 (i : grid0.Coords) : Fin 2 → Nat :=
  let c0_13 : Index := 0#32
  let arg0 : BitVec 32 := BitVec.ofNat 32 (i 0).val
  let c512_i32 : BitVec 32 := 512#32
  let v29 : BitVec 32 := Scalar.muli arg0 c512_i32
  let v30 : BitVec 32 := v29
  let v31 : Index := Scalar.indexCast v30
  ![0, v31.toNat]
def k0_cond1 (i : grid0.Coords) : BitVec 1 :=
  let arg0 : BitVec 32 := BitVec.ofNat 32 (i 0).val
  let c23_i32 : BitVec 32 := 23#32
  let v35 : BitVec 1 := Scalar.cmpi .eq arg0 c23_i32
  let v36 : BitVec 32 := Scalar.extui v35
  let c0_i32 : BitVec 32 := 0#32
  let v37 : BitVec 1 := Scalar.cmpi .ne v36 c0_i32
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S96x12288 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FcRefIdeal.lean ====
abbrev S96x6144 : Shape := ⟨2, ![96, 6144]⟩
abbrev S96x1 : Shape := ⟨2, ![96, 1]⟩
abbrev S6144x12288 : Shape := ⟨2, ![6144, 12288]⟩
abbrev S12288 : Shape := ⟨1, ![12288]⟩
abbrev S96x1x6144 : Shape := ⟨3, ![96, 1, 6144]⟩
abbrev S96x1x12288 : Shape := ⟨3, ![96, 1, 12288]⟩
abbrev S96x1x1 : Shape := ⟨3, ![96, 1, 1]⟩
abbrev S1x1x12288 : Shape := ⟨3, ![1, 1, 12288]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S96x6144, .i8⟩
  | .hbm, ⟨1, _⟩ => ⟨S96x1, .f32⟩
  | .hbm, ⟨2, _⟩ => ⟨S6144x12288, .i8⟩
  | .hbm, ⟨3, _⟩ => ⟨S12288, .f32⟩
  | .hbm, ⟨4, _⟩ => ⟨S12288, .f32⟩
  | .hbm, ⟨5, _⟩ => ⟨S96x1x6144, .i8⟩
  | .hbm, ⟨6, _⟩ => ⟨S96x1x6144, .i32⟩
  | .hbm, ⟨7, _⟩ => ⟨S96x1x6144, .f32⟩
  | .hbm, ⟨8, _⟩ => ⟨S96x1x6144, .bf16⟩
  | .hbm, ⟨9, _⟩ => ⟨S6144x12288, .i32⟩
  | .hbm, ⟨10, _⟩ => ⟨S6144x12288, .f32⟩
  | .hbm, ⟨11, _⟩ => ⟨S6144x12288, .bf16⟩
  | .hbm, ⟨12, _⟩ => ⟨S96x1x12288, .f32⟩
  | .hbm, ⟨13, _⟩ => ⟨S96x1x1, .f32⟩
  | .hbm, ⟨14, _⟩ => ⟨S96x1x12288, .f32⟩
  | .hbm, ⟨15, _⟩ => ⟨S96x1x12288, .f32⟩
  | .hbm, ⟨16, _⟩ => ⟨S1x1x12288, .f32⟩
  | .hbm, ⟨17, _⟩ => ⟨S96x1x12288, .f32⟩
  | .hbm, ⟨18, _⟩ => ⟨S96x1x12288, .f32⟩
  | .hbm, ⟨19, _⟩ => ⟨S1x1x12288, .f32⟩
  | .hbm, ⟨20, _⟩ => ⟨S96x1x12288, .f32⟩
  | .hbm, ⟨21, _⟩ => ⟨S96x1x12288, .f32⟩
  | .hbm, ⟨22, _⟩ => ⟨S_, .f32⟩
  | .hbm, ⟨23, _⟩ => ⟨S96x1x12288, .f32⟩
  | .hbm, ⟨24, _⟩ => ⟨S96x1x12288, .f32⟩
  | .hbm, ⟨25, _⟩ => ⟨S_, .f32⟩
  | .hbm, ⟨26, _⟩ => ⟨S96x1x12288, .f32⟩
  | .hbm, ⟨27, _⟩ => ⟨S96x1x12288, .f32⟩
  | .hbm, ⟨28, _⟩ => ⟨S96x1x12288, .f32⟩
  | .hbm, ⟨29, _⟩ => ⟨S96x1x12288, .f32⟩
  | .hbm, ⟨30, _⟩ => ⟨S96x1x12288, .f32⟩
  | .hbm, ⟨31, _⟩ => ⟨S_, .f32⟩
  | .hbm, ⟨32, _⟩ => ⟨S96x1x12288, .f32⟩
  | .hbm, ⟨33, _⟩ => ⟨S96x1x12288, .f32⟩
  | .hbm, ⟨34, _⟩ => ⟨S96x1x12288, .f32⟩
  | .hbm, ⟨35, _⟩ => ⟨S_, .f32⟩
  | .hbm, ⟨36, _⟩ => ⟨S96x1x12288, .f32⟩
  | .hbm, ⟨37, _⟩ => ⟨S96x1x12288, .f32⟩
  | .hbm, ⟨38, _⟩ => ⟨S96x1x12288, .f32⟩
  | .hbm, ⟨39, _⟩ => ⟨S96x1x12288, .f32⟩
  | .hbm, ⟨40, _⟩ => ⟨S_, .f32⟩
  | .hbm, ⟨41, _⟩ => ⟨S96x1, .f32⟩
  | .hbm, ⟨42, _⟩ => ⟨S_, .f32⟩
  | .hbm, ⟨43, _⟩ => ⟨S96x1, .f32⟩
  | .hbm, ⟨44, _⟩ => ⟨S96x1, .i1⟩
  | .hbm, ⟨45, _⟩ => ⟨S_, .f32⟩
  | .hbm, ⟨46, _⟩ => ⟨S96x1, .f32⟩
  | .hbm, ⟨47, _⟩ => ⟨S96x1, .f32⟩
  | .hbm, ⟨48, _⟩ => ⟨S_, .f32⟩
  | .hbm, ⟨49, _⟩ => ⟨S_, .f32⟩
  | .hbm, ⟨50, _⟩ => ⟨S96x1, .f32⟩
  | .hbm, ⟨51, _⟩ => ⟨S96x1, .f32⟩
  | .hbm, ⟨52, _⟩ => ⟨S96x1x1, .f32⟩
  | .hbm, ⟨53, _⟩ => ⟨S96x1x12288, .f32⟩
  | .hbm, ⟨54, _⟩ => ⟨S96x1x12288, .f32⟩
  | .hbm, ⟨55, _⟩ => ⟨S96x1x12288, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S96x1x12288, .f32⟩
  | .hbm, ⟨60, _⟩ => ⟨S96x1x12288, .f32⟩
  | .hbm, ⟨61, _⟩ => ⟨S_, .f32⟩
  | .hbm, ⟨62, _⟩ => ⟨S96x1x12288, .f32⟩
  | .hbm, ⟨63, _⟩ => ⟨S96x1x12288, .f32⟩
  | .hbm, ⟨64, _⟩ => ⟨S96x1x12288, .i32⟩
  | .hbm, ⟨65, _⟩ => ⟨S96x1x12288, .i8⟩
  | _, _ => ⟨S96x6144, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proj.lean ====
abbrev S96x12288 : Shape := ⟨2, ![96, 12288]⟩
abbrev S96x1 : Shape := ⟨2, ![96, 1]⟩
abbrev S12288x6144 : Shape := ⟨2, ![12288, 6144]⟩
abbrev S6144 : Shape := ⟨1, ![6144]⟩
abbrev S96x6144 : Shape := ⟨2, ![96, 6144]⟩
abbrev S1x6144 : Shape := ⟨2, ![1, 6144]⟩
abbrev S12288x256 : Shape := ⟨2, ![12288, 256]⟩
abbrev S1x256 : Shape := ⟨2, ![1, 256]⟩
abbrev S96x256 : Shape := ⟨2, ![96, 256]⟩
abbrev S96x1x6144 : Shape := ⟨3, ![96, 1, 6144]⟩

abbrev nBuf : Space → Nat
  | .hbm => 10
  | .vmem => 12
  | .smem => 0
  | _ => 0

abbrev bufTy : (tb : Table) → Fin (tcTables nBuf tb) → BufTy
  | .hbm, ⟨0, _⟩ => ⟨S96x12288, .i8⟩
  | .hbm, ⟨1, _⟩ => ⟨S96x1, .f32⟩
  | .hbm, ⟨2, _⟩ => ⟨S12288x6144, .i8⟩
  | .hbm, ⟨3, _⟩ => ⟨S6144, .f32⟩
  | .hbm, ⟨4, _⟩ => ⟨S6144, .f32⟩
  | .hbm, ⟨5, _⟩ => ⟨S96x6144, .f32⟩
  | .hbm, ⟨6, _⟩ => ⟨S1x6144, .f32⟩
  | .hbm, ⟨7, _⟩ => ⟨S1x6144, .f32⟩
  | .hbm, ⟨8, _⟩ => ⟨S96x6144, .bf16⟩
  | .hbm, ⟨9, _⟩ => ⟨S96x1x6144, .bf16⟩
  | .local _ .vmem, ⟨0, _⟩ => ⟨S96x12288, .i8⟩
  | .local _ .vmem, ⟨1, _⟩ => ⟨S96x1, .f32⟩
  | .local _ .vmem, ⟨2, _⟩ => ⟨S12288x256, .i8⟩
  | .local _ .vmem, ⟨3, _⟩ => ⟨S12288x256, .i8⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S96x256, .f32⟩
  | .local _ .vmem, ⟨9, _⟩ => ⟨S96x256, .f32⟩
  | .local _ .vmem, ⟨10, _⟩ => ⟨S96x256, .bf16⟩
  | .local _ .vmem, ⟨11, _⟩ => ⟨S96x256, .bf16⟩
  | _, _ => ⟨S96x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12288x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S96x12288 : Shape := ⟨2, ![96, 12288]⟩
abbrev S96x1 : Shape := ⟨2, ![96, 1]⟩
abbrev S12288x6144 : Shape := ⟨2, ![12288, 6144]⟩
abbrev S6144 : Shape := ⟨1, ![6144]⟩
abbrev S96x6144 : Shape := ⟨2, ![96, 6144]⟩
abbrev S96x1x6144 : Shape := ⟨3, ![96, 1, 6144]⟩
abbrev S96x1x12288 : Shape := ⟨3, ![96, 1, 12288]⟩
abbrev S96x1x1 : Shape := ⟨3, ![96, 1, 1]⟩
abbrev S1x1x6144 : Shape := ⟨3, ![1, 1, 6144]⟩

abbrev nBuf : Space → Nat
  | .hbm => 26
  | .vmem => 0
  | .smem => 0
  | _ => 0

abbrev bufTy : (tb : Table) → Fin (tcTables nBuf tb) → BufTy
  | .hbm, ⟨0, _⟩ => ⟨S96x12288, .i8⟩
  | .hbm, ⟨1, _⟩ => ⟨S96x1, .f32⟩
  | .hbm, ⟨2, _⟩ => ⟨S12288x6144, .i8⟩
  | .hbm, ⟨3, _⟩ => ⟨S6144, .f32⟩
  | .hbm, ⟨4, _⟩ => ⟨S6144, .f32⟩
  | .hbm, ⟨5, _⟩ => ⟨S96x6144, .f32⟩
  | .hbm, ⟨6, _⟩ => ⟨S96x1x6144, .f32⟩
  | .hbm, ⟨7, _⟩ => ⟨S96x1x12288, .i8⟩
  | .hbm, ⟨8, _⟩ => ⟨S96x1x12288, .i32⟩
  | .hbm, ⟨9, _⟩ => ⟨S96x1x12288, .f32⟩
  | .hbm, ⟨10, _⟩ => ⟨S96x1x12288, .bf16⟩
  | .hbm, ⟨11, _⟩ => ⟨S12288x6144, .i32⟩
  | .hbm, ⟨12, _⟩ => ⟨S12288x6144, .f32⟩
  | .hbm, ⟨13, _⟩ => ⟨S12288x6144, .bf16⟩
  | .hbm, ⟨14, _⟩ => ⟨S96x1x6144, .f32⟩
  | .hbm, ⟨15, _⟩ => ⟨S96x1x1, .f32⟩
  | .hbm, ⟨16, _⟩ => ⟨S96x1x6144, .f32⟩
  | .hbm, ⟨17, _⟩ => ⟨S96x1x6144, .f32⟩
  | .hbm, ⟨18, _⟩ => ⟨S1x1x6144, .f32⟩
  | .hbm, ⟨19, _⟩ => ⟨S96x1x6144, .f32⟩
  | .hbm, ⟨20, _⟩ => ⟨S96x1x6144, .f32⟩
  | .hbm, ⟨21, _⟩ => ⟨S1x1x6144, .f32⟩
  | .hbm, ⟨22, _⟩ => ⟨S96x1x6144, .f32⟩
  | .hbm, ⟨23, _⟩ => ⟨S96x1x6144, .f32⟩
  | .hbm, ⟨24, _⟩ => ⟨S96x1x6144, .f32⟩
  | .hbm, ⟨25, _⟩ => ⟨S96x1x6144, .bf16⟩
  | _, _ => ⟨S96x12288, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.QkvData.lean ====
module

public import proofs.«01_k».proof.Proof.Gen.QkvIdeal.Frame
public import proofs.«01_k».proof.Proof.Gen.QkvIdeal.Skeleton
public import Idealize.ShloMosaic.Lib.Pipeline.ValueKit
public import Idealize.ShloMosaic.Lib.Pipeline.TableIdle
public import Idealize.ShloMosaic.Lib.WholeRead

@[expose] public section

/-! The data of the qkv call: what each output block and each scratch buffer holds after every grid point, the body's
triple in its three cases, and the run of the whole call with its arrays named. -/

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The codes of the normalised rows, as bfloat16. -/
def cbOf (x0 : Vec F S96x6144 .bf16) (x1 x2 : Vec F S1x6144 .f32) : Vec F S96x6144 .bf16 :=
  k0_pay17 (k0_pay3 x0 x1 x2) k0_pay4
/-- The same codes as int8. -/
def codesOf (x0 : Vec F S96x6144 .bf16) (x1 x2 : Vec F S1x6144 .f32) : Vec F S96x6144 .i8 :=
  k0_pay18 (k0_pay3 x0 x1 x2) k0_pay4
/-- Their scales, a column. -/
def scOf (x0 : Vec F S96x6144 .bf16) (x1 x2 : Vec F S1x6144 .f32) : Vec F S96x1 .f32 :=
  k0_pay19 (k0_pay2 x0 x1 x2)
/-- Their scales, a row. -/
def scaleOf (x0 : Vec F S96x6144 .bf16) (x1 x2 : Vec F S1x6144 .f32) : Vec F S1x96 .f32 :=
  k0_pay20 (k0_pay2 x0 x1 x2)

section Block
variable (cb : Vec F S96x6144 .bf16) (sc : Vec F S96x1 .f32) (x3 x4 : Vec F S64x96 .f32)
  (x5 : Vec F S6144x512 .i8) (x6 x7 : Vec F S1x512 .f32)

/-- The four heads' stores into the block of rotated queries. -/
abbrev qPieces : List (View.Piece (Elt F) S96x512 .bf16) :=
  [⟨Rect.unit (s := S96x512) ![0, 384] S96x128.size inb_S96x512_S96x128_0_384, k0_pay27 cb x5 sc x6 x7 x3 x4⟩,
   ⟨Rect.unit (s := S96x512) ![0, 256] S96x128.size inb_S96x512_S96x128_0_256, k0_pay26 cb x5 sc x6 x7 x3 x4⟩,
   ⟨Rect.unit (s := S96x512) ![0, 128] S96x128.size inb_S96x512_S96x128_0_128, k0_pay25 cb x5 sc x6 x7 x3 x4⟩,
   ⟨Rect.unit (s := S96x512) ![0, 0] S96x128.size inb_S96x512_S96x128_0_0, k0_pay24 cb x5 sc x6 x7 x3 x4⟩]
/-- The block of rotated queries. -/
def qOf : Vec F S96x512 .bf16 := View.canon (qPieces cb sc x3 x4 x5 x6 x7)

/-- The two heads' stores of key codes. -/
abbrev kcPieces : List (View.Piece (Elt F) S2x96x128 .i8) :=
  [⟨Rect.unit (s := S2x96x128) ![1, 0, 0] S1x96x128.size inb_S2x96x128_S1x96x128_1_0_0,
      k0_pay28 (k0_pay15 (k0_pay21 cb x5 sc x6 x7) (k0_pay22 x3) (k0_pay23 x4))⟩,
   ⟨Rect.unit (s := S2x96x128) ![0, 0, 0] S1x96x128.size inb_S2x96x128_S1x96x128_0_0_0,
      k0_pay7 (k0_pay21 cb x5 sc x6 x7) (k0_pay22 x3) (k0_pay23 x4)⟩]
/-- The key codes. -/
def kcOf : Vec F S2x96x128 .i8 := View.canon (kcPieces cb sc x3 x4 x5 x6 x7)

/-- The two heads' stores of key scales. -/
abbrev ksPieces : List (View.Piece (Elt F) S2x96 .f32) :=
  [⟨Rect.unit (s := S2x96) ![1, 0] S1x96.size inb_S2x96_S1x96_1_0,
      k0_pay29 (k0_pay14 (k0_pay21 cb x5 sc x6 x7) (k0_pay22 x3) (k0_pay23 x4))⟩,
   ⟨Rect.unit (s := S2x96) ![0, 0] S1x96.size inb_S2x96_S1x96_0_0,
      k0_pay8 (k0_pay21 cb x5 sc x6 x7) (k0_pay22 x3) (k0_pay23 x4)⟩]
/-- The key scales. -/
def ksOf : Vec F S2x96 .f32 := View.canon (ksPieces cb sc x3 x4 x5 x6 x7)

/-- The two heads' stores of value codes. -/
abbrev vcPieces : List (View.Piece (Elt F) S2x96x128 .i8) :=
  [⟨Rect.unit (s := S2x96x128) ![1, 0, 0] S1x96x128.size inb_S2x96x128_S1x96x128_1_0_0, k0_pay32 cb x5 sc x6 x7⟩,
   ⟨Rect.unit (s := S2x96x128) ![0, 0, 0] S1x96x128.size inb_S2x96x128_S1x96x128_0_0_0,
      k0_pay11 (k0_pay9 (k0_pay21 cb x5 sc x6 x7)) (k0_pay10 (k0_pay21 cb x5 sc x6 x7))⟩]
/-- The value codes. -/
def vcOf : Vec F S2x96x128 .i8 := View.canon (vcPieces cb sc x5 x6 x7)

/-- The two heads' stores of value scales. -/
abbrev vsPieces : List (View.Piece (Elt F) S2x96 .f32) :=
  [⟨Rect.unit (s := S2x96) ![1, 0] S1x96.size inb_S2x96_S1x96_1_0, k0_pay33 cb x5 sc x6 x7⟩,
   ⟨Rect.unit (s := S2x96) ![0, 0] S1x96.size inb_S2x96_S1x96_0_0,
      k0_pay12 (k0_pay10 (k0_pay21 cb x5 sc x6 x7))⟩]
/-- The value scales. -/
def vsOf : Vec F S2x96 .f32 := View.canon (vsPieces cb sc x5 x6 x7)

end Block

/-! ## When each branch is taken -/

abbrev cond0 (i : grid0.Coords) : Prop := k0_cond1 i = 1#1
abbrev cond1 (i : grid0.Coords) : Prop := k0_cond2 i = 1#1
abbrev cond2 (i : grid0.Coords) : Prop := k0_cond3 i = 1#1
theorem hcond0 : ∀ t : Fin cfg0.N, cond0 (grid0.coords t) ↔ t.val = 0 := (by decide +kernel : ∀ t : Fin grid0.N, _)
theorem hcond1 : ∀ t : Fin cfg0.N, cond1 (grid0.coords t) ↔ t.val < 6 := (by decide +kernel : ∀ t : Fin grid0.N, _)
theorem hcond2 : ∀ t : Fin cfg0.N, cond2 (grid0.coords t) ↔ t.val = 6 := (by decide +kernel : ∀ t : Fin grid0.N, _)

theorem z2 : ∀ a : Fin 2, (![0, 0] : Fin 2 → ℕ) a = 0 := by decide

theorem readAt_zero {sp : Space} {S : Shape} {e : EltTy} {M : Memref sig .tc sp S e} (h : M.IsWhole) (X : S.Idx → Elt F e)
    {off : Fin S.rank → Nat} (inb : ∀ a, off a + S.size a ≤ S.size a) (hz : ∀ a, off a = 0) :
    M.view.readAt (Elt F) (Rect.unit off (no_index S.size) inb).toLoadRect (h.unread X) = X := by
  funext x
  refine (h.readAt_unread X _ x).trans (congrArg X ?_)
  exact congrFun (View.ld_unit_lit (Val := fun _ => S.Idx) (e := e) inb (fun y => y) hz) x

theorem readCov_zero {sp : Space} {S : Shape} {e : EltTy} (v : View sig .tc sp S e)
    {off : Fin S.rank → Nat} (inb : ∀ a, off a + S.size a ≤ S.size a) (w : S.Idx → Elt F e) (hz : ∀ a, off a = 0) :
    v.readCov [(⟨Rect.unit off (no_index S.size) inb, w⟩ : View.Piece (Elt F) S e)] (Rect.unit off (no_index S.size) inb).toLoadRect = w :=
  View.readCov_unit_zero v (funext hz) inb w

/-- Stores that tile a window leave their closed contents in it, whatever was there. -/
theorem closed {sp : Space} {S : Shape} {e : EltTy} (v : View sig .tc sp S e) (f : v.ty.Contents (Elt F))
    (L : List (View.Piece (Elt F) S e)) (size : Fin S.rank → ℕ) (h : View.Piece.tiledL L size = true) :
    v.read (Elt F) (v.writes (Elt F) f L) = View.canon L :=
  View.read_writes_eq_canon v f L (View.cover_of_tiledL L size h)

/-- One store over the whole window leaves its payload. -/
theorem closed_whole {sp : Space} {S : Shape} {e : EltTy} (v : View sig .tc sp S e) (f : v.ty.Contents (Elt F))
    {off : Fin S.rank → ℕ} (inb : ∀ a, off a + S.size a ≤ S.size a) (w : S.Idx → Elt F e) (hz : ∀ a, off a = 0) :
    v.read (Elt F) (v.writes (Elt F) f [(⟨Rect.unit off (no_index S.size) inb, w⟩ : View.Piece (Elt F) S e)]) = w :=
  (View.read_writes_eq_canon v f _ fun y => ⟨_, List.mem_singleton_self _, by
    obtain rfl : off = fun _ => 0 := funext hz
    show y ∈ (Rect.whole S).set; rw [Rect.set_whole]; exact Finset.mem_univ y⟩).trans (View.canon_unit_zero (funext hz) inb w)

/-! ## The body's triple, case by case -/

section Triples
variable (c : Dev nD) (i : grid0.Coords)
  (arg1 : Memref sig .tc .vmem S96x6144 .bf16) (harg1 : arg1.IsWhole)
  (arg2 : Memref sig .tc .vmem S1x6144 .f32) (harg2 : arg2.IsWhole)
  (arg3 : Memref sig .tc .vmem S1x6144 .f32) (harg3 : arg3.IsWhole)
  (arg4 : Memref sig .tc .vmem S64x96 .f32) (harg4 : arg4.IsWhole)
  (arg5 : Memref sig .tc .vmem S64x96 .f32) (harg5 : arg5.IsWhole)
  (arg6 : Memref sig .tc .vmem S6144x512 .i8) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S96x512 .bf16) (harg9 : arg9.IsWhole)
  (arg10 : Memref sig .tc .vmem S96x6144 .i8) (harg10 : arg10.IsWhole)
  (arg11 : Memref sig .tc .vmem S1x96 .f32) (harg11 : arg11.IsWhole)
  (arg12 : Memref sig .tc .vmem S2x96x128 .i8) (harg12 : arg12.IsWhole)
  (arg13 : Memref sig .tc .vmem S2x96 .f32) (harg13 : arg13.IsWhole)
  (arg14 : Memref sig .tc .vmem S2x96x128 .i8) (harg14 : arg14.IsWhole)
  (arg15 : Memref sig .tc .vmem S2x96 .f32) (harg15 : arg15.IsWhole)
  (arg16 : Memref sig .tc .vmem S96x6144 .bf16) (harg16 : arg16.IsWhole)
  (arg17 : Memref sig .tc .vmem S96x1 .f32) (harg17 : arg17.IsWhole)
  (x0 : Vec F S96x6144 .bf16) (x1 x2 : Vec F S1x6144 .f32) (x3 x4 : Vec F S64x96 .f32) (x5 : Vec F S6144x512 .i8) (x6 x7 : Vec F S1x512 .f32)
  (cb : Vec F S96x6144 .bf16) (sc : Vec F S96x1 .f32)

set_option maxHeartbeats 2000000 in
/-- The first point: the rows are normalised and quantised, and the first block of queries is written. -/
theorem body_first (hc0 : cond0 i) (hc1 : cond1 i) (hc2 : ¬cond2 i) :
    ∀ (E : Set ℕ) (K : PUnit → sProp 𝕄),
      iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg16 fullShare d)
          ∗ (∃ d, owns (c : Thread nD τ) arg17 fullShare d)
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (qOf (cbOf x0 x1 x2) (scOf x0 x1 x2) x3 x4 x5 x6 x7)
            ∗ owns (c : Thread nD τ) arg10 fullShare (codesOf x0 x1 x2)
            ∗ owns (c : Thread nD τ) arg11 fullShare (scaleOf x0 x1 x2)
            ∗ owns (c : Thread nD τ) arg16 fullShare (cbOf x0 x1 x2)
            ∗ owns (c : Thread nD τ) arg17 fullShare (scOf x0 x1 x2)) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_qkv_eq_skeleton]; unfold cc0_qkv_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d16, %f16, -, H16⟩, ⟨%d17, %f17, -, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    delta body_first.sl.v3
    delta body_first.sl.v7
    delta body_first.sl.H16_1
    delta body_first.sl.H17_1
    delta body_first.sl.r
    delta body_first.sl.r_1
    simp (disch := exact z2) only [readAt_zero, readCov_zero]
    exact closed _ _ _ S96x128.size (by sl_kernel_rfl)
  isplitl [H10]
  · iexists _; isplitr; swap; · iexact H10
    ipureintro
    delta body_first.sl.r_1
    simp (disch := exact z2) only [readAt_zero]
    exact closed_whole _ _ _ _ z2
  isplitl [H11]
  · iexists _; isplitr; swap; · iexact H11
    ipureintro
    delta body_first.sl.r
    simp (disch := exact z2) only [readAt_zero]
    exact closed_whole _ _ _ _ z2
  isplitl [H16]
  · iexists _; isplitr; swap; · iexact H16
    ipureintro
    delta body_first.sl.H16_1
    delta body_first.sl.r_1
    simp (disch := exact z2) only [readAt_zero]
    exact closed_whole _ _ _ _ z2
  iexists _; isplitr; swap; · iexact H17
  ipureintro
  delta body_first.sl.H17_1
  delta body_first.sl.r
  simp (disch := exact z2) only [readAt_zero]
  exact closed_whole _ _ _ _ z2

set_option maxHeartbeats 2000000 in
/-- The other points of the queries: one block of them is written. -/
theorem body_mid (hc0 : ¬cond0 i) (hc1 : cond1 i) (hc2 : ¬cond2 i) :
    ∀ (E : Set ℕ) (K : PUnit → sProp 𝕄),
      iprop(owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg16 fullShare cb
          ∗ owns (c : Thread nD τ) arg17 fullShare sc
          ∗ (∃ d, owns (c : Thread nD τ) arg9 fullShare d)
          ∗ (iprop(owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg16 fullShare cb
            ∗ owns (c : Thread nD τ) arg17 fullShare sc
            ∗ owns (c : Thread nD τ) arg9 fullShare (qOf cb sc x3 x4 x5 x6 x7)) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_qkv_eq_skeleton]; unfold cc0_qkv_skel
  simp only [k0_part1_eq_skeleton, k0_part2_eq_skeleton, k0_part3_eq_skeleton, k0_part4_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f16, %hf16, H16⟩, ⟨%f17, %hf17, H17⟩, ⟨%d9, %f9, -, H9⟩, Hk⟩
  obtain rfl := harg4.eq_unread hf4; obtain rfl := harg5.eq_unread hf5; obtain rfl := harg6.eq_unread hf6; obtain rfl := harg7.eq_unread hf7; obtain rfl := harg8.eq_unread hf8; obtain rfl := harg16.eq_unread hf16; obtain rfl := harg17.eq_unread hf17
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H16]
  · iexists _; isplitr; · ipureintro; exact harg16.read_unread _
    iexact H16
  isplitl [H17]
  · iexists _; isplitr; · ipureintro; exact harg17.read_unread _
    iexact H17
  iexists _; isplitr; swap; · iexact H9
  ipureintro
  simp (disch := exact z2) only [readAt_zero]
  exact closed _ _ _ S96x128.size (by sl_kernel_rfl)

set_option maxHeartbeats 2000000 in
/-- The last point: the keys and values are quantised. -/
theorem body_last (hc0 : ¬cond0 i) (hc1 : ¬cond1 i) (hc2 : cond2 i) :
    ∀ (E : Set ℕ) (K : PUnit → sProp 𝕄),
      iprop(owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg16 fullShare cb
          ∗ owns (c : Thread nD τ) arg17 fullShare sc
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg16 fullShare cb
            ∗ owns (c : Thread nD τ) arg17 fullShare sc
            ∗ owns (c : Thread nD τ) arg12 fullShare (kcOf cb sc x3 x4 x5 x6 x7)
            ∗ owns (c : Thread nD τ) arg13 fullShare (ksOf cb sc x3 x4 x5 x6 x7)
            ∗ owns (c : Thread nD τ) arg14 fullShare (vcOf cb sc x5 x6 x7)
            ∗ owns (c : Thread nD τ) arg15 fullShare (vsOf cb sc x5 x6 x7)) -∗ K ⟨⟩))
        ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_qkv_eq_skeleton]; unfold cc0_qkv_skel
  simp only [k0_part1_eq_skeleton, k0_part2_eq_skeleton, k0_part3_eq_skeleton, k0_part4_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f16, %hf16, H16⟩, ⟨%f17, %hf17, H17⟩, ⟨%d12, %f12, -, H12⟩, ⟨%d13, %f13, -, H13⟩, ⟨%d14, %f14, -, H14⟩, ⟨%d15, %f15, -, H15⟩, Hk⟩
  obtain rfl := harg4.eq_unread hf4; obtain rfl := harg5.eq_unread hf5; obtain rfl := harg6.eq_unread hf6; obtain rfl := harg7.eq_unread hf7; obtain rfl := harg8.eq_unread hf8; obtain rfl := harg16.eq_unread hf16; obtain rfl := harg17.eq_unread hf17
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H16]
  · iexists _; isplitr; · ipureintro; exact harg16.read_unread _
    iexact H16
  isplitl [H17]
  · iexists _; isplitr; · ipureintro; exact harg17.read_unread _
    iexact H17
  isplitl [H12]
  · iexists _; isplitr; swap; · iexact H12
    ipureintro
    delta body_last.sl.r_3
    simp (disch := exact z2) only [readAt_zero]
    exact closed _ _ _ S1x96x128.size (by sl_kernel_rfl)
  isplitl [H13]
  · iexists _; isplitr; swap; · iexact H13
    ipureintro
    delta body_last.sl.r_2
    simp (disch := exact z2) only [readAt_zero]
    exact closed _ _ _ S1x96.size (by sl_kernel_rfl)
  isplitl [H14]
  · iexists _; isplitr; swap; · iexact H14
    ipureintro
    delta body_last.sl.r
    delta body_last.sl.r_1
    simp (disch := exact z2) only [readAt_zero]
    exact closed _ _ _ S1x96x128.size (by sl_kernel_rfl)
  iexists _; isplitr; swap; · iexact H15
  ipureintro
  delta body_last.sl.r_1
  simp (disch := exact z2) only [readAt_zero]
  exact closed _ _ _ S1x96.size (by sl_kernel_rfl)

end Triples

/-! ## What every point leaves -/

/-- The codes kept in scratch: those of the rows as the first point finds them. -/
def cbC (c : Dev nD) : Vec F S96x6144 .bf16 := cbOf (iblk m c 0 t0_0) (iblk m c 1 t0_0) (iblk m c 2 t0_0)
/-- Their scales. -/
def scC (c : Dev nD) : Vec F S96x1 .f32 := scOf (iblk m c 0 t0_0) (iblk m c 1 t0_0) (iblk m c 2 t0_0)
/-- The codes written out. -/
def codesC (c : Dev nD) : Vec F S96x6144 .i8 := codesOf (iblk m c 0 t0_0) (iblk m c 1 t0_0) (iblk m c 2 t0_0)
/-- Their scales written out. -/
def scaleC (c : Dev nD) : Vec F S1x96 .f32 := scaleOf (iblk m c 0 t0_0) (iblk m c 1 t0_0) (iblk m c 2 t0_0)
/-- The point that wrote the block the query window holds at point `t`. -/
def qPt (t : Fin cfg0.N) : Fin cfg0.N := ⟨min t.val 5, lt_of_le_of_lt (min_le_left _ _) t.isLt⟩
theorem qPt_lt (t : Fin cfg0.N) (h : t.val < 6) : qPt t = t := Fin.ext (by simp only [qPt]; omega)
/-- The block of queries the window holds at point `t`. -/
def qC (c : Dev nD) (t : Fin cfg0.N) : Vec F S96x512 .bf16 :=
  qOf (cbC m c) (scC m c) (iblk m c 3 (qPt t)) (iblk m c 4 (qPt t)) (iblk m c 5 (qPt t)) (iblk m c 6 (qPt t)) (iblk m c 7 (qPt t))
/-- The key codes the last point writes. -/
def kcC (c : Dev nD) : Vec F S2x96x128 .i8 := kcOf (cbC m c) (scC m c) (iblk m c 3 t0_6) (iblk m c 4 t0_6) (iblk m c 5 t0_6) (iblk m c 6 t0_6) (iblk m c 7 t0_6)
/-- The key scales the last point writes. -/
def ksC (c : Dev nD) : Vec F S2x96 .f32 := ksOf (cbC m c) (scC m c) (iblk m c 3 t0_6) (iblk m c 4 t0_6) (iblk m c 5 t0_6) (iblk m c 6 t0_6) (iblk m c 7 t0_6)
/-- The value codes the last point writes. -/
def vcC (c : Dev nD) : Vec F S2x96x128 .i8 := vcOf (cbC m c) (scC m c) (iblk m c 5 t0_6) (iblk m c 6 t0_6) (iblk m c 7 t0_6)
/-- The value scales the last point writes. -/
def vsC (c : Dev nD) : Vec F S2x96 .f32 := vsOf (cbC m c) (scC m c) (iblk m c 5 t0_6) (iblk m c 6 t0_6) (iblk m c 7 t0_6)

/-- The scratch buffers at the codes and scales, and the generator register. -/
def Scr (c : Dev nD) : sProp 𝕄 :=
  iprop(owns (c : Thread nD τ) (Memref.whole cc0_scratch0) fullShare (cbC m c)
    ∗ owns (c : Thread nD τ) (Memref.whole cc0_scratch1) fullShare (scC m c) ∗ ∃ r, prngReg c r)
/-- Before the first point the scratch is anything, afterwards it is the codes and scales. -/
def PhiN (c : Dev nD) : ℕ → sProp 𝕄
  | 0 => Pipeline.ΦA spec0 c
  | _ + 1 => Scr m c

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qC m c t
    | ⟨9, _⟩ => codesC m c
    | ⟨10, _⟩ => scaleC m c
    | ⟨11, _⟩ => kcC m c
    | ⟨12, _⟩ => ksC m c
    | ⟨13, _⟩ => vcC m c
    | ⟨14, _⟩ => vsC m c
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = qC m c t := by dsimp only [dats]
theorem after0_9 (c : Dev nD) (t : Fin cfg0.N) : (dats m 0 c).after 9 t = codesC m c := by dsimp only [dats]
theorem after0_10 (c : Dev nD) (t : Fin cfg0.N) : (dats m 0 c).after 10 t = scaleC m c := by dsimp only [dats]
theorem after0_11 (c : Dev nD) (t : Fin cfg0.N) : (dats m 0 c).after 11 t = kcC m c := by dsimp only [dats]
theorem after0_12 (c : Dev nD) (t : Fin cfg0.N) : (dats m 0 c).after 12 t = ksC m c := by dsimp only [dats]
theorem after0_13 (c : Dev nD) (t : Fin cfg0.N) : (dats m 0 c).after 13 t = vcC m c := by dsimp only [dats]
theorem after0_14 (c : Dev nD) (t : Fin cfg0.N) : (dats m 0 c).after 14 t = vsC m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Where the outputs are idle, and what they hold there -/

theorem idle_q : ∀ t : Fin cfg0.N, cfg0.idle 8 (cfg0.grid.coords t) = !decide (t.val < 6) := by decide +kernel
theorem idle_codes : ∀ t : Fin cfg0.N, cfg0.idle 9 (cfg0.grid.coords t) = !decide (t.val = 0) := by decide +kernel
theorem idle_scale : ∀ t : Fin cfg0.N, cfg0.idle 10 (cfg0.grid.coords t) = !decide (t.val = 0) := by decide +kernel
theorem idle_kc : ∀ t : Fin cfg0.N, cfg0.idle 11 (cfg0.grid.coords t) = !decide (t.val = 6) := by decide +kernel
theorem idle_ks : ∀ t : Fin cfg0.N, cfg0.idle 12 (cfg0.grid.coords t) = !decide (t.val = 6) := by decide +kernel
theorem idle_vc : ∀ t : Fin cfg0.N, cfg0.idle 13 (cfg0.grid.coords t) = !decide (t.val = 6) := by decide +kernel
theorem idle_vs : ∀ t : Fin cfg0.N, cfg0.idle 14 (cfg0.grid.coords t) = !decide (t.val = 6) := by decide +kernel
theorem flush_q : ∀ t : Fin cfg0.N, t.val = 6 → (cfg0.win 8).flush t = true := by decide +kernel
theorem fresh_q : ∀ t : Fin cfg0.N, t.val = 6 → cfg0.fresh 8 t.val = false := by decide +kernel
theorem fresh_codes : ∀ t : Fin cfg0.N, t.val = 6 → cfg0.fresh 9 t.val = false := by decide +kernel
theorem fresh_scale : ∀ t : Fin cfg0.N, t.val = 6 → cfg0.fresh 10 t.val = false := by decide +kernel

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]
theorem leaves_flush (c : Dev nD) (w : Fin cfg0.W) (t : Fin cfg0.N) (hi : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [hi, hf]

/-- At the last point the query window still holds the last block of queries. -/
theorem before_q (c : Dev nD) (t : Fin cfg0.N) (ht : t.val = 6) (d) : (dats m 0 c).before 8 t d = (dats m 0 c).after 8 t := by
  have carry : ∀ (t : Fin cfg0.N) (h0 : t.val ≠ 0), cfg0.idle 8 (cfg0.grid.coords t) = true → cfg0.fresh 8 t.val = false →
      (dats m 0 c).after 8 t = (dats m 0 c).after 8 ⟨t.val - 1, by omega⟩ := fun t h0 hi _ => by
    rw [idle_q] at hi
    have h6 : ¬ t.val < 6 := by simpa using hi
    rw [after0_8, after0_8]
    have : qPt t = qPt ⟨t.val - 1, by omega⟩ := Fin.ext (by simp only [qPt]; omega)
    unfold qC; rw [this]
  rw [Dat.before_out_traj (dats m 0 c) 8 rfl (fun _ _ => rfl) carry t.val t rfl d, fresh_q t ht]
  exact (carry t (by omega) (by rw [idle_q]; simp; omega) (fresh_q t ht)).symm
/-- The codes' window holds the codes from the first point on. -/
theorem before_codes (c : Dev nD) (t : Fin cfg0.N) (ht : t.val = 6) (d) : (dats m 0 c).before 9 t d = (dats m 0 c).after 9 t := by
  rw [Dat.before_out_traj (dats m 0 c) 9 rfl (fun _ _ => rfl) (fun t _ _ _ => by rw [after0_9, after0_9]) t.val t rfl d,
    fresh_codes t ht, after0_9]
  exact (after0_9 m c t).symm
/-- The scales' window holds the scales from the first point on. -/
theorem before_scale (c : Dev nD) (t : Fin cfg0.N) (ht : t.val = 6) (d) : (dats m 0 c).before 10 t d = (dats m 0 c).after 10 t := by
  rw [Dat.before_out_traj (dats m 0 c) 10 rfl (fun _ _ => rfl) (fun t _ _ _ => by rw [after0_10, after0_10]) t.val t rfl d,
    fresh_scale t ht, after0_10]
  exact (after0_10 m c t).symm

/-! ## The body obligation -/

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 2000000 in
/-- The first point. -/
theorem sound_first (c : Dev nD) (t : Fin cfg0.N) (ht : t.val = 0) :
    bodyPre m c t ⊢ wp frame (wpE (defs₀ (F := F)) Variants.none c none) Set.univ (bodyAt0 t) (fun _ => bodyPost m c t) := by
  obtain rfl : t = t0_0 := Fin.ext ht
  have hΦ : (dats m 0 c).Φ (Fin.castSucc t0_0) = Pipeline.ΦA spec0 c := rfl
  unfold bodyPre bodyPost bodyAt0
  simp only [before0_0, before0_1, before0_2, before0_3, before0_4, before0_5, before0_6, before0_7]
  rw [show (dats m 0 c).Φ (Fin.castSucc t0_0) = Pipeline.ΦA spec0 c from hΦ, show (dats m 0 c).Φ (Fin.succ t0_0) = Scr m c from rfl,
    show (dats m 0 c).owesAt () (Fin.succ t0_0) = (dats m 0 c).owesAt () (Fin.castSucc t0_0) from rfl,
    leaves_live m c 0 t0_0 rfl, leaves_live m c 1 t0_0 rfl, leaves_live m c 2 t0_0 rfl, leaves_live m c 3 t0_0 rfl, leaves_live m c 4 t0_0 rfl, leaves_live m c 5 t0_0 rfl, leaves_live m c 6 t0_0 rfl, leaves_live m c 7 t0_0 rfl,
    leaves_live m c 8 t0_0 (idle_q _), leaves_live m c 9 t0_0 (idle_codes _), leaves_live m c 10 t0_0 (idle_scale _), Dat.leavesExact_idle (dats m 0 c) 11 t0_0 (idle_kc _) (by decide +kernel), Dat.leavesExact_idle (dats m 0 c) 12 t0_0 (idle_ks _) (by decide +kernel), Dat.leavesExact_idle (dats m 0 c) 13 t0_0 (idle_vc _) (by decide +kernel), Dat.leavesExact_idle (dats m 0 c) 14 t0_0 (idle_vs _) (by decide +kernel),
    after0_0, after0_1, after0_2, after0_3, after0_4, after0_5, after0_6, after0_7, after0_8, after0_9, after0_10]
  unfold Pipeline.ΦA Scr
  rw [scopedRest0_eq, owns_whole, owns_whole]
  iintro ⟨⟨⟨⟨%s0, HS0⟩, ⟨%s1, HS1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_first c (grid0.coords t0_0) _ _ _ _ _ _ _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (iblk m c 7 t0_0) ((hcond0 t0_0).mpr rfl) ((hcond1 t0_0).mpr (by decide)) (fun h => absurd ((hcond2 t0_0).mp h) (by decide)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexists _; rw [owns_whole]; iexact HS0
  isplitl [HS1]; · iexists _; rw [owns_whole]; iexact HS1
  rw [owns_whole, owns_whole]
  iintro ⟨H0, H1, H2, H3, H4, H5, H6, H7, H8, H9, H10, HS0, HS1⟩
  isplitl [HS0 HS1 HR]
  · isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iexists _; iexact H14

set_option maxHeartbeats 2000000 in
/-- The other points of the queries. -/
theorem sound_mid (c : Dev nD) (t : Fin cfg0.N) (ht : 0 < t.val ∧ t.val < 6) :
    bodyPre m c t ⊢ wp frame (wpE (defs₀ (F := F)) Variants.none c none) Set.univ (bodyAt0 t) (fun _ => bodyPost m c t) := by
  obtain ⟨h0, h6⟩ := ht
  have hΦ : (dats m 0 c).Φ t.castSucc = Scr m c := by
    show PhiN m c t.val = Scr m c
    obtain ⟨n, hn⟩ : ∃ n, t.val = n + 1 := ⟨t.val - 1, by omega⟩
    rw [hn]; rfl
  unfold bodyPre bodyPost bodyAt0
  simp only [before0_0, before0_1, before0_2, before0_3, before0_4, before0_5, before0_6, before0_7]
  rw [show (dats m 0 c).Φ t.castSucc = Scr m c from hΦ, show (dats m 0 c).Φ t.succ = Scr m c from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl,
    leaves_live m c 8 t (by rw [idle_q]; simp; omega), Dat.leavesExact_idle (dats m 0 c) 9 t (by rw [idle_codes]; simp; omega) (Bool.eq_false_iff.mpr fun h => absurd ((flush0_9 t).mp h) (by omega)), Dat.leavesExact_idle (dats m 0 c) 10 t (by rw [idle_scale]; simp; omega) (Bool.eq_false_iff.mpr fun h => absurd ((flush0_10 t).mp h) (by omega)), Dat.leavesExact_idle (dats m 0 c) 11 t (by rw [idle_kc]; simp; omega) (Bool.eq_false_iff.mpr fun h => absurd ((flush0_11 t).mp h) (by omega)), Dat.leavesExact_idle (dats m 0 c) 12 t (by rw [idle_ks]; simp; omega) (Bool.eq_false_iff.mpr fun h => absurd ((flush0_12 t).mp h) (by omega)), Dat.leavesExact_idle (dats m 0 c) 13 t (by rw [idle_vc]; simp; omega) (Bool.eq_false_iff.mpr fun h => absurd ((flush0_13 t).mp h) (by omega)), Dat.leavesExact_idle (dats m 0 c) 14 t (by rw [idle_vs]; simp; omega) (Bool.eq_false_iff.mpr fun h => absurd ((flush0_14 t).mp h) (by omega)),
    after0_0, after0_1, after0_2, after0_3, after0_4, after0_5, after0_6, after0_7, after0_8]
  rw [show qC m c t = qOf (cbC m c) (scC m c) (iblk m c 3 t) (iblk m c 4 t) (iblk m c 5 t) (iblk m c 6 t) (iblk m c 7 t) by unfold qC; rw [qPt_lt t h6]]
  unfold Scr
  iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_mid c (grid0.coords t) _ _ _ _ _ _ _ _ _ _ _ _ _ _ _ _ _ _ _ _ _ _ _ _ _ _ _ _ _ _ _ _ _ _ (iblk m c 3 t) (iblk m c 4 t) (iblk m c 5 t) (iblk m c 6 t) (iblk m c 7 t) (cbC m c) (scC m c) (fun h => absurd ((hcond0 t).mp h) (by omega)) ((hcond1 t).mpr h6) (fun h => absurd ((hcond2 t).mp h) (by omega)) Set.univ _)
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [H8]; · iexists _; iexact H8
  iintro ⟨H3, H4, H5, H6, H7, HS0, HS1, H8⟩
  isplitl [HS0 HS1 HR]
  · isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 2000000 in
/-- The last point. -/
theorem sound_last (c : Dev nD) (t : Fin cfg0.N) (ht : t.val = 6) :
    bodyPre m c t ⊢ wp frame (wpE (defs₀ (F := F)) Variants.none c none) Set.univ (bodyAt0 t) (fun _ => bodyPost m c t) := by
  obtain rfl : t = t0_6 := Fin.ext ht
  have hΦ : (dats m 0 c).Φ (Fin.castSucc t0_6) = Scr m c := rfl
  unfold bodyPre bodyPost bodyAt0
  simp only [before_q m c t0_6 rfl, before_codes m c t0_6 rfl, before_scale m c t0_6 rfl, before0_0, before0_1, before0_2, before0_3, before0_4, before0_5, before0_6, before0_7]
  rw [show (dats m 0 c).Φ (Fin.castSucc t0_6) = Scr m c from hΦ, show (dats m 0 c).Φ (Fin.succ t0_6) = Scr m c from rfl,
    show (dats m 0 c).owesAt () (Fin.succ t0_6) = (dats m 0 c).owesAt () (Fin.castSucc t0_6) from rfl,
    leaves_live m c 0 t0_6 rfl, leaves_live m c 1 t0_6 rfl, leaves_live m c 2 t0_6 rfl, leaves_live m c 3 t0_6 rfl, leaves_live m c 4 t0_6 rfl, leaves_live m c 5 t0_6 rfl, leaves_live m c 6 t0_6 rfl, leaves_live m c 7 t0_6 rfl,
    leaves_flush m c 8 t0_6 (idle_q _) (flush_q _ rfl), leaves_flush m c 9 t0_6 (idle_codes _) (by decide +kernel), leaves_flush m c 10 t0_6 (idle_scale _) (by decide +kernel), leaves_live m c 11 t0_6 (idle_kc _), leaves_live m c 12 t0_6 (idle_ks _), leaves_live m c 13 t0_6 (idle_vc _), leaves_live m c 14 t0_6 (idle_vs _),
    after0_0, after0_1, after0_2, after0_3, after0_4, after0_5, after0_6, after0_7, after0_11, after0_12, after0_13, after0_14]
  unfold Scr
  iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_last c (grid0.coords t0_6) _ _ _ _ _ _ _ _ _ _ _ _ _ _ _ _ _ _ _ _ _ _ _ _ _ _ _ _ _ _ _ _ _ _ (iblk m c 3 t0_6) (iblk m c 4 t0_6) (iblk m c 5 t0_6) (iblk m c 6 t0_6) (iblk m c 7 t0_6) (cbC m c) (scC m c) (fun h => absurd ((hcond0 t0_6).mp h) (by decide)) (fun h => absurd ((hcond1 t0_6).mp h) (by decide)) ((hcond2 t0_6).mpr rfl) Set.univ _)
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [H11]; · iexists _; iexact H11
  isplitl [H12]; · iexists _; iexact H12
  isplitl [H13]; · iexists _; iexact H13
  isplitl [H14]; · iexists _; iexact H14
  iintro ⟨H3, H4, H5, H6, H7, HS0, HS1, H11, H12, H13, H14⟩
  isplitl [HS0 HS1 HR]
  · isplitl [HS0]; · iexact HS0
    isplitl [HS1]; · iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := F)) Variants.none c none) Set.univ (bodyAt0 t) (fun _ => bodyPost m c t) := by
  have hN : cfg0.N = 7 := N_0
  have := t.isLt
  rcases Nat.eq_zero_or_pos t.val with h | h
  · exact sound_first m c t h
  · rcases Nat.lt_or_ge t.val 6 with h6 | h6
    · exact sound_mid m c t ⟨h, h6⟩
    · exact sound_last m c t (by omega)

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enter (c : Dev nD) : Pipeline.ΦA spec0 c ⊢ (dats m 0 c).Φ 0 := .rfl

theorem leave (c : Dev nD) : (dats m 0 c).Φ (Fin.last cfg0.N) ⊢ Pipeline.ΦA spec0 c := by
  rw [show (dats m 0 c).Φ (Fin.last cfg0.N) = Scr m c from rfl]
  unfold Pipeline.ΦA Scr
  rw [scopedRest0_eq, owns_whole, owns_whole]
  iintro ⟨H0, H1, HR⟩
  isplitl [H0 H1]
  · isplitl [H0]; · iexists _; iexact H0
    iexists _; iexact H1
  iexact HR

set_option backward.isDefEq.respectTransparency.types false in
set_option maxHeartbeats 800000 in
/-- The run: every array of the pipeline ends at what the proof data say, every other buffer as the lines after the
    call leave it, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.QkvIdeal.Hand

end
-- ==== Proof.QkvBlocks.lean ====
module

public import proofs.«01_k».proof.Proof.QkvData
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

/-! ## The input blocks of the qkv call, read at an index -/

namespace Cert.QkvIdeal.Hand

open Cert.QkvIdeal Cert.QkvIdeal.Gen
open Idealize.ShloMosaic Idealize.ShloMosaic.TcCoe Idealize.ShloMosaic.StableHlo Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, t.val] ∧ win0_6.index t = ![0, t.val]
    ∧ win0_7.index t = ![0, t.val] ∧ win0_8.index t = ![0, min t.val 5] ∧ win0_9.index t = ![0, 0] ∧ win0_10.index t = ![0, 0]
    ∧ win0_11.index t = ![0, 0, 0] ∧ win0_12.index t = ![0, 0] ∧ win0_13.index t = ![0, 0, 0] ∧ win0_14.index t = ![0, 0] :=
  (by decide +kernel : ∀ t : Fin grid0.N, _)

theorem V_main_v0 (c : Dev nD) : V m c main_v0 = shapeCast _ (m ((c.tc : Thread nD τ).loc main_arg0)) shapeCasts_S96x1x6144_S96x6144 := by
  show StableHlo.after hostOps0 (fun b => m (c, b)) _ = _
  after_results
  all_goals rfl
theorem V_main_v2 (c : Dev nD) : V m c main_v2 = transpose _ [1, 0] (shapeCast _ (m ((c.tc : Thread nD τ).loc main_arg1)) shapeCasts_S96x1x64_S96x64) transposes_S96x64_S64x96_1_0 := by
  show StableHlo.after hostOps0 (fun b => m (c, b)) _ = _
  after_results
  all_goals rfl
theorem V_main_v4 (c : Dev nD) : V m c main_v4 = transpose _ [1, 0] (shapeCast _ (m ((c.tc : Thread nD τ).loc main_arg2)) shapeCasts_S96x1x64_S96x64) transposes_S96x64_S64x96_1_0 := by
  show StableHlo.after hostOps0 (fun b => m (c, b)) _ = _
  after_results
  all_goals rfl
theorem V_main_v5 (c : Dev nD) : V m c main_v5 = shapeCast _ (m ((c.tc : Thread nD τ).loc main_arg3)) shapeCasts_S6144_S1x6144 := by
  show StableHlo.after hostOps0 (fun b => m (c, b)) _ = _
  after_results
  all_goals rfl
theorem V_main_v6 (c : Dev nD) : V m c main_v6 = shapeCast _ (m ((c.tc : Thread nD τ).loc main_arg4)) shapeCasts_S6144_S1x6144 := by
  show StableHlo.after hostOps0 (fun b => m (c, b)) _ = _
  after_results
  all_goals rfl
theorem V_main_v7 (c : Dev nD) : V m c main_v7 = shapeCast _ (m ((c.tc : Thread nD τ).loc main_arg6)) shapeCasts_S3584_S1x3584 := by
  show StableHlo.after hostOps0 (fun b => m (c, b)) _ = _
  after_results
  all_goals rfl
theorem V_main_v8 (c : Dev nD) : V m c main_v8 = shapeCast _ (m ((c.tc : Thread nD τ).loc main_arg7)) shapeCasts_S3584_S1x3584 := by
  show StableHlo.after hostOps0 (fun b => m (c, b)) _ = _
  after_results
  all_goals rfl

theorem rows_at (x : Vec Ideal ⟨3, ![96, 1, 6144]⟩ .bf16) (i : S96x6144.Idx) :
    shapeCast S96x6144 x shapeCasts_S96x1x6144_S96x6144 i = x (ix3 (i 0) (0 : Fin 1) (i 1)) := by
  idx_vars i
  pointwise
theorem angle_at (x : Vec Ideal ⟨3, ![96, 1, 64]⟩ .f32) (i : S64x96.Idx) :
    transpose S64x96 [1, 0] (shapeCast S96x64 x shapeCasts_S96x1x64_S96x64) transposes_S96x64_S64x96_1_0 i = x (ix3 (i 1) (0 : Fin 1) (i 0)) := by
  idx_vars i
  pointwise
theorem gain_at (x : Vec Ideal ⟨1, ![6144]⟩ .f32) (i : S1x6144.Idx) :
    shapeCast S1x6144 x shapeCasts_S6144_S1x6144 i = x (ix1 (i 1)) := by
  idx_vars i
  pointwise
theorem row_at (x : Vec Ideal ⟨1, ![3584]⟩ .f32) (i : S1x3584.Idx) :
    shapeCast S1x3584 x shapeCasts_S3584_S1x3584 i = x (ix1 (i 1)) := by
  idx_vars i
  pointwise

theorem col_lt (t : Fin cfg0.N) (j : Fin 512) : t.val * 512 + j.val < 3584 := by
  have : t.val < 7 := lt_of_lt_of_eq t.isLt (by decide)
  omega

theorem blk_x (c : Dev nD) (t : Fin cfg0.N) (r : Fin 96) (k : Fin 6144) :
    iblk m c 0 t (ix2 r k) = m ((c.tc : Thread nD τ).loc main_arg0) (ix3 r (0 : Fin 1) k) := by
  blk_simp [iblk, idx t]
  rw [V_main_v0, rows_at]
  blk_ext [idx t]
theorem blk_g (c : Dev nD) (t : Fin cfg0.N) (k : Fin 6144) :
    iblk m c 1 t (ix2 (0 : Fin 1) k) = m ((c.tc : Thread nD τ).loc main_arg3) (ix1 k) := by
  blk_simp [iblk, idx t]
  rw [V_main_v5, gain_at]
  blk_ext [idx t]
theorem blk_b (c : Dev nD) (t : Fin cfg0.N) (k : Fin 6144) :
    iblk m c 2 t (ix2 (0 : Fin 1) k) = m ((c.tc : Thread nD τ).loc main_arg4) (ix1 k) := by
  blk_simp [iblk, idx t]
  rw [V_main_v6, gain_at]
  blk_ext [idx t]
theorem blk_cos (c : Dev nD) (t : Fin cfg0.N) (j : Fin 64) (r : Fin 96) :
    iblk m c 3 t (ix2 j r) = m ((c.tc : Thread nD τ).loc main_arg1) (ix3 r (0 : Fin 1) j) := by
  blk_simp [iblk, idx t]
  rw [V_main_v2, angle_at]
  blk_ext [idx t]
theorem blk_sin (c : Dev nD) (t : Fin cfg0.N) (j : Fin 64) (r : Fin 96) :
    iblk m c 4 t (ix2 j r) = m ((c.tc : Thread nD τ).loc main_arg2) (ix3 r (0 : Fin 1) j) := by
  blk_simp [iblk, idx t]
  rw [V_main_v4, angle_at]
  blk_ext [idx t]
theorem blk_w (c : Dev nD) (t : Fin cfg0.N) (k : Fin 6144) (j : Fin 512) :
    iblk m c 5 t (ix2 k j) = m ((c.tc : Thread nD τ).loc main_arg5) (ix2 k (⟨t.val * 512 + j.val, col_lt t j⟩ : Fin 3584)) := by
  blk_ext [iblk, V_main_arg5, idx t]
theorem blk_s (c : Dev nD) (t : Fin cfg0.N) (j : Fin 512) :
    iblk m c 6 t (ix2 (0 : Fin 1) j) = m ((c.tc : Thread nD τ).loc main_arg6) (ix1 (⟨t.val * 512 + j.val, col_lt t j⟩ : Fin 3584)) := by
  blk_simp [iblk, idx t]
  rw [V_main_v7, row_at]
  blk_ext [idx t]
theorem blk_bias (c : Dev nD) (t : Fin cfg0.N) (j : Fin 512) :
    iblk m c 7 t (ix2 (0 : Fin 1) j) = m ((c.tc : Thread nD τ).loc main_arg7) (ix1 (⟨t.val * 512 + j.val, col_lt t j⟩ : Fin 3584)) := by
  blk_simp [iblk, idx t]
  rw [V_main_v8, row_at]
  blk_ext [idx t]

end Cert.QkvIdeal.Hand

end
-- ==== Proof.QkvCodes.lean ====
module

public import proofs.«01_k».proof.Proof.QkvData
public import proofs.«01_k».proof.Proof.Gen.QkvRefIdeal.Run
public import proofs.«01_k».proof.Proof.Gen.QkvRefIdeal.Read
public import Idealize.ShloMosaic.Lib.Pointwise

@[expose] public section

set_option maxRecDepth 16384

noncomputable section

/-! ## The codes of a row: normalise, scale by the largest magnitude, round, clip -/

namespace Cert.QkvIdeal.Hand

open Cert.QkvIdeal Cert.QkvIdeal.Gen
open Cert.QkvRefIdeal.Read
open Idealize.ShloMosaic Idealize.ShloMosaic.TcCoe Idealize.ShloMosaic.StableHlo Idealize.SL.Sem

section Rows
variable (x0 : Vec Ideal S96x6144 .bf16) (x1 x2 : Vec Ideal S1x6144 .f32)
  (r0 : Vec Ideal ⟨3, ![96, 1, 6144]⟩ .bf16) (r3 r4 : Vec Ideal ⟨1, ![6144]⟩ .f32)
  (h0 : ∀ (r : Fin 96) (k : Fin 6144), x0 (ix2 r k) = r0 (ix3 r (0 : Fin 1) k))
  (h1 : ∀ k : Fin 6144, x1 (ix2 (0 : Fin 1) k) = r3 (ix1 k))
  (h2 : ∀ k : Fin 6144, x2 (ix2 (0 : Fin 1) k) = r4 (ix1 k))

include h0 h1 h2

theorem norm_at (r : Fin 96) (k : Fin 6144) :
    k0_pay1 x0 x1 x2 (ix2 r k) = val_main_v22 (F := Ideal) r0 r3 r4 (ix3 r (0 : Fin 1) k) := by
  pointwise [k0_pay1, h0, h1, h2, val_main_v22, val_main_v21, val_main_v20, val_main_v19, val_main_v18, val_main_v17, val_main_v16, val_main_v15, val_main_v14, val_main_v13, val_main_v12, val_main_cst_3, val_main_v11, val_main_v10, val_main_cst_2, val_main_v9, val_main_v8, val_main_cst_1, val_main_v7, val_main_v6, val_main_v5, val_main_v4, val_main_v3, val_main_cst_0, val_main_v2, val_main_v1, val_main_cst, val_main_v0]

theorem scale_at (r : Fin 96) :
    k0_pay2 x0 x1 x2 (ix2 r (0 : Fin 1)) = val_main_v29 (F := Ideal) r0 r3 r4 (ix2 r (0 : Fin 1)) := by
  pointwise [k0_pay2, id, norm_at x0 x1 x2 r0 r3 r4 h0 h1 h2, val_main_v29, val_main_call0_v1, val_main_call0_v0, val_main_cst_7, val_main_v28, val_main_v27, val_main_cst_6, val_main_v26, val_main_v25, val_main_cst_5, val_main_v24, val_main_cst_4, val_main_v23]

theorem clip_at (r : Fin 96) (k : Fin 6144) :
    k0_pay16 (k0_pay3 x0 x1 x2) k0_pay4 (ix2 r k) = val_main_v34 (F := Ideal) r0 r3 r4 (ix3 r (0 : Fin 1) k) := by
  pointwise [k0_pay16, k0_pay3, k0_pay4, norm_at x0 x1 x2 r0 r3 r4 h0 h1 h2, scale_at x0 x1 x2 r0 r3 r4 h0 h1 h2, val_main_v34, val_main_call2_v4, val_main_call2_v3, val_main_call2_v2, val_main_call2_v1, val_main_call2_v0, val_main_c, val_main_c_8, val_main_v33, val_main_v32, val_main_v31, val_main_v30]
  rfl

end Rows

end Cert.QkvIdeal.Hand

end
-- ==== Proof.IdealInt.lean ====
module

public import Idealize.ShloMosaic.Lib.Pointwise

@[expose] public section

set_option maxRecDepth 16384

noncomputable section

/-! ## Codes: integers between −127 and 127 survive the conversions between floats, 32 bits and eight -/

namespace Cert.Codes

open Idealize.ShloMosaic

/-- An integer between −127 and 127. -/
def IsCode (z : EReal) : Prop := ∃ n : ℤ, -127 ≤ n ∧ n ≤ 127 ∧ z = ((n : ℝ) : EReal)

theorem isCode_clip (z : EReal) :
    IsCode (min (((127#32).toInt : ℝ) : EReal) (max (((4294967169#32).toInt : ℝ) : EReal) (Ideal.liftRound Ideal.roundHalfEven z))) := by
  have e1 : (127#32).toInt = 127 := by decide
  have e2 : (4294967169#32).toInt = -127 := by decide
  rw [e1, e2]
  induction z with
  | bot => exact ⟨-127, by norm_num, by norm_num, by
      rw [Ideal.liftRound_bot, max_eq_left bot_le, min_eq_right (by exact_mod_cast (by norm_num : (-127 : ℝ) ≤ 127))]⟩
  | top => exact ⟨127, by norm_num, by norm_num, by
      rw [Ideal.liftRound_top, max_eq_right le_top, min_eq_left le_top]⟩
  | coe r =>
    refine ⟨min 127 (max (-127) (Ideal.roundHalfEven r)), by omega, by omega, ?_⟩
    rw [Ideal.liftRound_coe]
    push_cast
    rfl

/-- Converting a code to eight bits, or to 32 bits and cutting those to eight, is the same. -/
theorem code_narrow {z : EReal} (h : IsCode z) : Ideal.fptosi 8 z = (Ideal.fptosi 32 z).setWidth 8 := by
  obtain ⟨n, h1, h2, rfl⟩ := h
  have e : (if (0 : ℝ) ≤ (n : ℝ) then ⌊(n : ℝ)⌋ else ⌈(n : ℝ)⌉) = n := by split <;> simp
  unfold Ideal.fptosi
  rw [Ideal.toIntClamped_coe, Ideal.toIntClamped_coe, e]
  have a1 : max (-((2 ^ (8 - 1) : ℕ) : ℤ)) (min (((2 ^ (8 - 1) : ℕ) : ℤ) - 1) n) = n := by norm_num; omega
  have a2 : max (-((2 ^ (32 - 1) : ℕ) : ℤ)) (min (((2 ^ (32 - 1) : ℕ) : ℤ) - 1) n) = n := by norm_num; omega
  rw [a1, a2]
  interval_cases n <;> decide

/-- A code read back from its eight bits is the code. -/
theorem code_back {z : EReal} (h : IsCode z) :
    ((((((Ideal.fptosi 32 z).setWidth 8).signExtend 32).toInt : ℝ)) : EReal) = z := by
  rw [← code_narrow h]
  obtain ⟨n, h1, h2, rfl⟩ := h
  have e : (if (0 : ℝ) ≤ (n : ℝ) then ⌊(n : ℝ)⌋ else ⌈(n : ℝ)⌉) = n := by split <;> simp
  unfold Ideal.fptosi
  rw [Ideal.toIntClamped_coe, e]
  have a1 : max (-((2 ^ (8 - 1) : ℕ) : ℤ)) (min (((2 ^ (8 - 1) : ℕ) : ℤ) - 1) n) = n := by norm_num; omega
  rw [a1, BitVec.toInt_signExtend_of_le (by decide)]
  have : (BitVec.ofInt 8 n).toInt = n := by interval_cases n <;> decide
  rw [this]

/-- An 8-bit integer widened to 32 bits converts to the same real. -/
theorem sitofp_signExtend (φ ψ : FTy) (x : BitVec 8) :
    (FloatOps.sitofp (F := Ideal) φ (BitVec.signExtend 32 x)) = FloatOps.sitofp (F := Ideal) ψ x := by
  show (((BitVec.signExtend 32 x).toInt : ℝ) : EReal) = ((x.toInt : ℝ) : EReal)
  rw [BitVec.toInt_signExtend_of_le (by decide)]

end Cert.Codes

end
-- ==== Proof.QkvLinear.lean ====
module

public import proofs.«01_k».proof.Proof.QkvCodes
public import proofs.«01_k».proof.Proof.IdealInt

@[expose] public section

set_option backward.proofsInPublic true
set_option maxRecDepth 16384

noncomputable section

/-! ## The scaled product of codes -/

namespace Cert.QkvIdeal.Hand

open Cert.QkvIdeal Cert.QkvIdeal.Gen
open Cert.QkvRefIdeal.Read
open Idealize.ShloMosaic Idealize.ShloMosaic.TcCoe Idealize.ShloMosaic.StableHlo Idealize.SL.Sem

open Cert.Codes

section Linear
variable (cb : Vec Ideal S96x6144 .bf16) (sc : Vec Ideal S96x1 .f32) (x5 : Vec Ideal S6144x512 .i8) (x6 x7 : Vec Ideal S1x512 .f32)
  (r0 : Vec Ideal ⟨3, ![96, 1, 6144]⟩ .bf16) (r3 r4 : Vec Ideal ⟨1, ![6144]⟩ .f32)
  (r5 : Vec Ideal ⟨2, ![6144, 3584]⟩ .i8) (r6 r7 : Vec Ideal ⟨1, ![3584]⟩ .f32)
  (o : ℕ) (ho : o + 512 ≤ 3584)
  (hcb : ∀ (r : Fin 96) (k : Fin 6144), cb (ix2 r k) = val_main_v34 (F := Ideal) r0 r3 r4 (ix3 r (0 : Fin 1) k))
  (hsc : ∀ r : Fin 96, sc (ix2 r (0 : Fin 1)) = val_main_v29 (F := Ideal) r0 r3 r4 (ix2 r (0 : Fin 1)))
  (h5 : ∀ (k : Fin 6144) (j : Fin 512), x5 (ix2 k j) = r5 (ix2 k (⟨o + j.val, by omega⟩ : Fin 3584)))
  (h6 : ∀ j : Fin 512, x6 (ix2 (0 : Fin 1) j) = r6 (ix1 (⟨o + j.val, by omega⟩ : Fin 3584)))
  (h7 : ∀ j : Fin 512, x7 (ix2 (0 : Fin 1) j) = r7 (ix1 (⟨o + j.val, by omega⟩ : Fin 3584)))

theorem clip_isCode (r : Fin 96) (k : Fin 6144) : IsCode (val_main_v34 (F := Ideal) r0 r3 r4 (ix3 r (0 : Fin 1) k)) := by
  have h := isCode_clip (val_main_v32 (F := Ideal) r0 r3 r4 (ix3 r (0 : Fin 1) k))
  pointwise [val_main_v34, val_main_call2_v4, val_main_call2_v3, val_main_call2_v2, val_main_call2_v1, val_main_call2_v0, val_main_c, val_main_c_8, val_main_v33]
  exact h

include hcb hsc h5 h6 h7 in
theorem linear_at (r : Fin 96) (j : Fin 512) :
    k0_pay21 cb x5 sc x6 x7 (ix2 r j) = val_main_v52 (F := Ideal) r0 r3 r4 r5 r6 r7 (ix3 r (0 : Fin 1) (⟨o + j.val, by omega⟩ : Fin 3584)) := by
  pointwise [k0_pay21, hcb, hsc, h5, h6, h7, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35]
  have key : ∀ x : Fin 6144, FloatOps.sitofp (F := Ideal) .f32 (BitVec.signExtend 32 (BitVec.setWidth 8
      (FloatOps.fptosi (F := Ideal) (φ := .f32) 32 (val_main_v34 (F := Ideal) r0 r3 r4 (ix3 r (0 : Fin 1) x)))))
        = val_main_v34 (F := Ideal) r0 r3 r4 (ix3 r (0 : Fin 1) x) := fun x => code_back (clip_isCode r0 r3 r4 r x)
  simp only [key, sitofp_signExtend .f32 .bf16]

end Linear

end Cert.QkvIdeal.Hand

end
-- ==== Proof.QkvRope.lean ====
module

public import proofs.«01_k».proof.Proof.QkvData
public import proofs.«01_k».proof.Proof.Gen.QkvRefIdeal.Run
public import proofs.«01_k».proof.Proof.Gen.QkvRefIdeal.Read
public import proofs.«01_k».proof.Proof.IdealInt

@[expose] public section

set_option backward.proofsInPublic true
set_option maxRecDepth 16384

noncomputable section

/-! ## The rotation of a head -/

namespace Cert.QkvIdeal.Hand

open Cert.QkvIdeal Cert.QkvIdeal.Gen
open Cert.QkvRefIdeal.Read
open Idealize.ShloMosaic Idealize.ShloMosaic.TcCoe Idealize.ShloMosaic.StableHlo Idealize.SL.Sem

/-- One head's rotation: the first half `y·cos − y'·sin`, the second half `y·cos + y'·sin`, `y'` the other half. -/
def rope (y : Fin 128 → EReal) (cs sn : Fin 64 → EReal) (l : Fin 128) : EReal :=
  if h : l.val < 64 then y l * cs ⟨l.val, h⟩ - y ⟨64 + l.val, by omega⟩ * sn ⟨l.val, h⟩
  else y l * cs ⟨l.val - 64, by omega⟩ + y ⟨l.val - 64, by omega⟩ * sn ⟨l.val - 64, by omega⟩

theorem rope_core (z : FVec Ideal S96x128 .f32) (x3 x4 : Vec Ideal S64x96 .f32) (r : Fin 96) (l : Fin 128) :
    addf (mulf z (k0_pay22 x3)) (mulf (dynamicRotate 1 64#32 none z rotates_S96x128_d1) (k0_pay23 x4)) (ix2 r l)
      = rope (fun l => z (ix2 r l)) (fun j => x3 (ix2 j r)) (fun j => x4 (ix2 j r)) l := by
  unfold rope
  pointwise [k0_pay22, k0_pay23]
  by_cases h : l.val < 64
  · have e : (l.val + 128 - 64) % 128 = 64 + l.val := by omega
    simp only [dif_pos h, e]
    rw [zero_sub, mul_neg, ← sub_eq_add_neg]
  · have e : (l.val + 128 - 64) % 128 = l.val - 64 := by omega
    simp only [dif_neg h, e]

section Ref
variable (r0 : Vec Ideal ⟨3, ![96, 1, 6144]⟩ .bf16) (r1 r2 : Vec Ideal ⟨3, ![96, 1, 64]⟩ .f32) (r3 r4 : Vec Ideal ⟨1, ![6144]⟩ .f32)
  (r5 : Vec Ideal ⟨2, ![6144, 3584]⟩ .i8) (r6 r7 : Vec Ideal ⟨1, ![3584]⟩ .f32)

theorem v73_at (r : Fin 96) (h : Fin 24) (l : Fin 128) :
    val_main_v73 (F := Ideal) r0 r1 r2 r3 r4 r5 r6 r7 (ix4 r (0 : Fin 1) h l)
      = rope (fun l => val_main_v52 (F := Ideal) r0 r3 r4 r5 r6 r7 (ix3 r (0 : Fin 1) (⟨h.val * 128 + l.val, by omega⟩ : Fin 3584)))
          (fun j => r1 (ix3 r (0 : Fin 1) j)) (fun j => r2 (ix3 r (0 : Fin 1) j)) l := by
  unfold rope
  pointwise [val_main_v73, val_main_v72, val_main_v71, val_main_v70, val_main_v69, val_main_v68, val_main_v67, val_main_v66, val_main_v65, val_main_v64, val_main_v63, val_main_v62, val_main_v61, val_main_v60, val_main_v59, val_main_v54, val_main_v53]
  by_cases hl : l.val < 64
  · simp only [dif_pos hl]
  · have e : 64 + (l.val - 64) = l.val := by omega
    simp only [dif_neg hl, e]

theorem v88_at (r : Fin 96) (h : Fin 2) (l : Fin 128) :
    val_main_v88 (F := Ideal) r0 r1 r2 r3 r4 r5 r6 r7 (ix4 r (0 : Fin 1) h l)
      = rope (fun l => val_main_v52 (F := Ideal) r0 r3 r4 r5 r6 r7 (ix3 r (0 : Fin 1) (⟨3072 + (h.val * 128 + l.val), by omega⟩ : Fin 3584)))
          (fun j => r1 (ix3 r (0 : Fin 1) j)) (fun j => r2 (ix3 r (0 : Fin 1) j)) l := by
  unfold rope
  pointwise [val_main_v88, val_main_v87, val_main_v86, val_main_v85, val_main_v84, val_main_v83, val_main_v82, val_main_v81, val_main_v80, val_main_v79, val_main_v78, val_main_v77, val_main_v76, val_main_v75, val_main_v74, val_main_v56, val_main_v55]
  by_cases hl : l.val < 64
  · simp only [dif_pos hl]
  · have e : 64 + (l.val - 64) = l.val := by omega
    simp only [dif_neg hl, e]

theorem v58_at (r : Fin 96) (h : Fin 2) (l : Fin 128) :
    val_main_v58 (F := Ideal) r0 r3 r4 r5 r6 r7 (ix4 r (0 : Fin 1) h l)
      = val_main_v52 (F := Ideal) r0 r3 r4 r5 r6 r7 (ix3 r (0 : Fin 1) (⟨3328 + (h.val * 128 + l.val), by omega⟩ : Fin 3584)) := by
  pointwise [val_main_v58, val_main_v57]

end Ref

end Cert.QkvIdeal.Hand

end
-- ==== Proof.QkvHeads.lean ====
module

public import proofs.«01_k».proof.Proof.QkvData
public import proofs.«01_k».proof.Proof.Gen.QkvRefIdeal.Run
public import proofs.«01_k».proof.Proof.Gen.QkvRefIdeal.Read
public import proofs.«01_k».proof.Proof.IdealInt

@[expose] public section

set_option maxRecDepth 16384

noncomputable section

/-! ## The heads of keys and values -/

namespace Cert.QkvIdeal.Hand

open Cert.QkvIdeal Cert.QkvIdeal.Gen
open Cert.QkvRefIdeal.Read
open Idealize.ShloMosaic Idealize.ShloMosaic.TcCoe Idealize.ShloMosaic.StableHlo Idealize.SL.Sem

open Cert.Codes

/-! ## Quantising one head -/

/-- A row's scale: its largest magnitude over 127, or 1 for a row of zeros. -/
def headScale (z : FVec Ideal S96x128 .f32) : FVec Ideal S96x1 .f32 :=
  let a : FVec Ideal S96x1 .f32 := shapeCast S96x1 (multiReduction .maximumf [1] S96 (absf z) 0xFF800000#32 reduces_S96x128_S96 (.inl rfl) rfl) shapeCasts_S96_S96x1
  select (cmpf .oeq a (broadcast S96x1 (Scalar.ofBits .f32 0x00000000#32))) (broadcast S96x1 (Scalar.ofBits .f32 0x3F800000#32))
    (divf a (broadcast S96x1 (Scalar.ofBits .f32 0x42FE0000#32)))

theorem row_scale (s : FVec Ideal S96x1 .f32) (r : Fin 96) : k0_pay12 s (ix2 (0 : Fin 1) r) = s (ix2 r (0 : Fin 1)) := by
  pointwise [k0_pay12]

section Quant
variable (z : FVec Ideal S96x128 .f32) (s : FVec Ideal S96x1 .f32)
  (r0 : Vec Ideal ⟨3, ![96, 1, 6144]⟩ .bf16) (r1 r2 : Vec Ideal ⟨3, ![96, 1, 64]⟩ .f32) (r3 r4 : Vec Ideal ⟨1, ![6144]⟩ .f32)
  (r5 : Vec Ideal ⟨2, ![6144, 3584]⟩ .i8) (r6 r7 : Vec Ideal ⟨1, ![3584]⟩ .f32) (h : Fin 2)

theorem k_scale_at (hz : ∀ (r : Fin 96) (l : Fin 128), z (ix2 r l) = val_main_v88 (F := Ideal) r0 r1 r2 r3 r4 r5 r6 r7 (ix4 r (0 : Fin 1) h l)) (r : Fin 96) :
    headScale z (ix2 r (0 : Fin 1)) = val_main_v95 (F := Ideal) r0 r1 r2 r3 r4 r5 r6 r7 (ix3 r (0 : Fin 1) h) := by
  pointwise [headScale, hz, id, val_main_v95, val_main_call3_v1, val_main_call3_v0, val_main_cst_12, val_main_v94, val_main_v93, val_main_cst_11, val_main_v92, val_main_v91, val_main_cst_10, val_main_v90, val_main_cst_9, val_main_v89]

theorem v_scale_at (hz : ∀ (r : Fin 96) (l : Fin 128), z (ix2 r l) = val_main_v58 (F := Ideal) r0 r3 r4 r5 r6 r7 (ix4 r (0 : Fin 1) h l)) (r : Fin 96) :
    headScale z (ix2 r (0 : Fin 1)) = val_main_v109 (F := Ideal) r0 r3 r4 r5 r6 r7 (ix3 r (0 : Fin 1) h) := by
  pointwise [headScale, hz, id, val_main_v109, val_main_call6_v1, val_main_call6_v0, val_main_cst_18, val_main_v108, val_main_v107, val_main_cst_17, val_main_v106, val_main_v105, val_main_cst_16, val_main_v104, val_main_cst_15, val_main_v103]

theorem k_codes_at (hz : ∀ (r : Fin 96) (l : Fin 128), z (ix2 r l) = val_main_v88 (F := Ideal) r0 r1 r2 r3 r4 r5 r6 r7 (ix4 r (0 : Fin 1) h l))
    (hs : ∀ r : Fin 96, s (ix2 r (0 : Fin 1)) = val_main_v95 (F := Ideal) r0 r1 r2 r3 r4 r5 r6 r7 (ix3 r (0 : Fin 1) h)) (r : Fin 96) (l : Fin 128) :
    k0_pay11 z s (ix3 (0 : Fin 1) r l) = val_main_v102 (F := Ideal) r0 r1 r2 r3 r4 r5 r6 r7 (ix4 r (0 : Fin 1) h l) := by
  pointwise [k0_pay11, hz, hs, val_main_v102, val_main_v101, val_main_v100, val_main_call5_v4, val_main_call5_v3, val_main_call5_v2, val_main_call5_v1, val_main_call5_v0, val_main_c_13, val_main_c_14, val_main_v99, val_main_v98, val_main_v97, val_main_v96]
  exact code_narrow (isCode_clip _)

theorem v_codes_at (hz : ∀ (r : Fin 96) (l : Fin 128), z (ix2 r l) = val_main_v58 (F := Ideal) r0 r3 r4 r5 r6 r7 (ix4 r (0 : Fin 1) h l))
    (hs : ∀ r : Fin 96, s (ix2 r (0 : Fin 1)) = val_main_v109 (F := Ideal) r0 r3 r4 r5 r6 r7 (ix3 r (0 : Fin 1) h)) (r : Fin 96) (l : Fin 128) :
    k0_pay11 z s (ix3 (0 : Fin 1) r l) = val_main_v116 (F := Ideal) r0 r3 r4 r5 r6 r7 (ix4 r (0 : Fin 1) h l) := by
  pointwise [k0_pay11, hz, hs, val_main_v116, val_main_v115, val_main_v114, val_main_call8_v4, val_main_call8_v3, val_main_call8_v2, val_main_call8_v1, val_main_call8_v0, val_main_c_19, val_main_c_20, val_main_v113, val_main_v112, val_main_v111, val_main_v110]
  exact code_narrow (isCode_clip _)

end Quant

end Cert.QkvIdeal.Hand

end
-- ==== Proof.QkvArrays.lean ====
module

public import proofs.«01_k».proof.Proof.QkvBlocks
public import proofs.«01_k».proof.Proof.QkvLinear
public import proofs.«01_k».proof.Proof.QkvRope
public import proofs.«01_k».proof.Proof.QkvHeads

@[expose] public section

set_option backward.proofsInPublic true
set_option maxRecDepth 16384

noncomputable section

/-! ## What each output block of the qkv call holds, in terms of the reference's stages -/

namespace Cert.QkvIdeal.Hand

open Cert.QkvIdeal Cert.QkvIdeal.Gen
open Cert.QkvRefIdeal.Read Cert.Codes
open Idealize.ShloMosaic Idealize.ShloMosaic.TcCoe Idealize.ShloMosaic.StableHlo Idealize.SL.Sem

variable (m : (ℓ : Loc nD τ sig) → Buf (Elt Ideal) ℓ) (c : Dev nD)

/-! The arguments. -/
abbrev a0 : Vec Ideal ⟨3, ![96, 1, 6144]⟩ .bf16 := m ((c.tc : Thread nD τ).loc main_arg0)
abbrev a1 : Vec Ideal ⟨3, ![96, 1, 64]⟩ .f32 := m ((c.tc : Thread nD τ).loc main_arg1)
abbrev a2 : Vec Ideal ⟨3, ![96, 1, 64]⟩ .f32 := m ((c.tc : Thread nD τ).loc main_arg2)
abbrev a3 : Vec Ideal ⟨1, ![6144]⟩ .f32 := m ((c.tc : Thread nD τ).loc main_arg3)
abbrev a4 : Vec Ideal ⟨1, ![6144]⟩ .f32 := m ((c.tc : Thread nD τ).loc main_arg4)
abbrev a5 : Vec Ideal ⟨2, ![6144, 3584]⟩ .i8 := m ((c.tc : Thread nD τ).loc main_arg5)
abbrev a6 : Vec Ideal ⟨1, ![3584]⟩ .f32 := m ((c.tc : Thread nD τ).loc main_arg6)
abbrev a7 : Vec Ideal ⟨1, ![3584]⟩ .f32 := m ((c.tc : Thread nD τ).loc main_arg7)

theorem cb_at (r : Fin 96) (k : Fin 6144) :
    cbC m c (ix2 r k) = val_main_v34 (F := Ideal) (a0 m c) (a3 m c) (a4 m c) (ix3 r (0 : Fin 1) k) := by
  pointwise [cbC, cbOf, k0_pay17]
  exact clip_at _ _ _ _ _ _ (blk_x m c t0_0) (blk_g m c t0_0) (blk_b m c t0_0) r k
theorem sc_at (r : Fin 96) :
    scC m c (ix2 r (0 : Fin 1)) = val_main_v29 (F := Ideal) (a0 m c) (a3 m c) (a4 m c) (ix2 r (0 : Fin 1)) := by
  pointwise [scC, scOf, k0_pay19]
  exact scale_at _ _ _ _ _ _ (blk_x m c t0_0) (blk_g m c t0_0) (blk_b m c t0_0) r
theorem codes_at (r : Fin 96) (k : Fin 6144) :
    codesC m c (ix2 r k) = val_main_v36 (F := Ideal) (a0 m c) (a3 m c) (a4 m c) (ix3 r (0 : Fin 1) k) := by
  pointwise [codesC, codesOf, k0_pay18, val_main_v36, val_main_v35]
  refine (congrArg (Ideal.fptosi 8) (clip_at _ _ _ _ _ _ (blk_x m c t0_0) (blk_g m c t0_0) (blk_b m c t0_0) r k)).trans ?_
  exact code_narrow (clip_isCode (a0 m c) (a3 m c) (a4 m c) r k)
theorem scaleOut_at (r : Fin 96) :
    scaleC m c (ix2 (0 : Fin 1) r) = val_main_v29 (F := Ideal) (a0 m c) (a3 m c) (a4 m c) (ix2 r (0 : Fin 1)) := by
  pointwise [scaleC, scaleOf, k0_pay20]
  exact scale_at _ _ _ _ _ _ (blk_x m c t0_0) (blk_g m c t0_0) (blk_b m c t0_0) r

/-- The scaled product of codes at point `t`. -/
abbrev Y (t : Fin cfg0.N) : FVec Ideal S96x512 .f32 :=
  k0_pay21 (cbC m c) (iblk m c 5 t) (scC m c) (iblk m c 6 t) (iblk m c 7 t)
/-- The reference's projection. -/
abbrev P : Vec Ideal ⟨3, ![96, 1, 3584]⟩ .f32 := val_main_v52 (F := Ideal) (a0 m c) (a3 m c) (a4 m c) (a5 m c) (a6 m c) (a7 m c)

theorem y_at (t : Fin cfg0.N) (r : Fin 96) (j : Fin 512) :
    Y m c t (ix2 r j) = P m c (ix3 r (0 : Fin 1) (⟨t.val * 512 + j.val, col_lt t j⟩ : Fin 3584)) :=
  linear_at _ _ _ _ _ _ _ _ _ _ _ (t.val * 512) (by have : t.val < 7 := lt_of_lt_of_eq t.isLt (by decide); omega)
    (cb_at m c) (sc_at m c) (blk_w m c t) (blk_s m c t) (blk_bias m c t) r j

theorem slice_at (z : FVec Ideal S96x512 .f32) (off : ℕ) (sl) (ho : off + 128 ≤ 512) (r : Fin 96) (l : Fin 128) :
    extractStridedSlice S96x128 ![0, off] z sl (ix2 r l) = z (ix2 r (⟨off + l.val, by omega⟩ : Fin 512)) := by
  pointwise

theorem rot_at (t : Fin cfg0.N) (off : ℕ) (sl) (ho : off + 128 ≤ 512) (r : Fin 96) (l : Fin 128) :
    addf (mulf (extractStridedSlice S96x128 ![0, off] (Y m c t) sl) (k0_pay22 (iblk m c 3 t)))
        (mulf (dynamicRotate 1 64#32 none (extractStridedSlice S96x128 ![0, off] (Y m c t) sl) rotates_S96x128_d1) (k0_pay23 (iblk m c 4 t))) (ix2 r l)
      = rope (fun l => P m c (ix3 r (0 : Fin 1) (⟨t.val * 512 + (off + l.val), col_lt t ⟨off + l.val, by omega⟩⟩ : Fin 3584)))
          (fun j => a1 m c (ix3 r (0 : Fin 1) j)) (fun j => a2 m c (ix3 r (0 : Fin 1) j)) l :=
  (rope_core _ _ _ r l).trans (congrFun (congr (congr (congrArg rope (funext fun l =>
    (slice_at _ off sl ho r l).trans (y_at m c t r _))) (funext fun j => blk_cos m c t j r)) (funext fun j => blk_sin m c t j r)) l)

theorem t6 : (t0_6 : Fin cfg0.N).val = 6 := by decide

theorem k_rot (h : Fin 2) (off : ℕ) (sl) (e : off = h.val * 128) (r : Fin 96) (l : Fin 128) :
    addf (mulf (extractStridedSlice S96x128 ![0, off] (Y m c t0_6) sl) (k0_pay22 (iblk m c 3 t0_6)))
        (mulf (dynamicRotate 1 64#32 none (extractStridedSlice S96x128 ![0, off] (Y m c t0_6) sl) rotates_S96x128_d1) (k0_pay23 (iblk m c 4 t0_6))) (ix2 r l)
      = val_main_v88 (F := Ideal) (a0 m c) (a1 m c) (a2 m c) (a3 m c) (a4 m c) (a5 m c) (a6 m c) (a7 m c) (ix4 r (0 : Fin 1) h l) := by
  refine (rot_at m c t0_6 off sl (by omega) r l).trans (Eq.trans ?_ (v88_at (a0 m c) (a1 m c) (a2 m c) (a3 m c) (a4 m c) (a5 m c) (a6 m c) (a7 m c) r h l).symm)
  refine congrFun (congrFun (congrFun (congrArg rope (funext fun l => congrArg (fun k => P m c (ix3 r (0 : Fin 1) k)) (Fin.ext ?_))) _) _) _
  show (t0_6 : Fin cfg0.N).val * 512 + (off + l.val) = 3072 + (h.val * 128 + l.val)
  rw [t6]; omega

theorem q_lt (t : Fin cfg0.N) (ht : t.val < 6) (n : Fin 4) : t.val * 4 + n.val < 24 := by omega

theorem q_rot (t : Fin cfg0.N) (ht : t.val < 6) (n : Fin 4) (off : ℕ) (sl) (e : off = n.val * 128) (r : Fin 96) (l : Fin 128) :
    addf (mulf (extractStridedSlice S96x128 ![0, off] (Y m c t) sl) (k0_pay22 (iblk m c 3 t)))
        (mulf (dynamicRotate 1 64#32 none (extractStridedSlice S96x128 ![0, off] (Y m c t) sl) rotates_S96x128_d1) (k0_pay23 (iblk m c 4 t))) (ix2 r l)
      = val_main_v73 (F := Ideal) (a0 m c) (a1 m c) (a2 m c) (a3 m c) (a4 m c) (a5 m c) (a6 m c) (a7 m c)
          (ix4 r (0 : Fin 1) (⟨t.val * 4 + n.val, q_lt t ht n⟩ : Fin 24) l) := by
  refine (rot_at m c t off sl (by omega) r l).trans (Eq.trans ?_ (v73_at (a0 m c) (a1 m c) (a2 m c) (a3 m c) (a4 m c) (a5 m c) (a6 m c) (a7 m c) r _ l).symm)
  refine congrFun (congrFun (congrFun (congrArg rope (funext fun l => congrArg (fun k => P m c (ix3 r (0 : Fin 1) k)) (Fin.ext ?_))) _) _) _
  show t.val * 512 + (off + l.val) = (t.val * 4 + n.val) * 128 + l.val
  omega

theorem v_slice (h : Fin 2) (off : ℕ) (sl) (e : off = 256 + h.val * 128) (r : Fin 96) (l : Fin 128) :
    extractStridedSlice S96x128 ![0, off] (Y m c t0_6) sl (ix2 r l)
      = val_main_v58 (F := Ideal) (a0 m c) (a3 m c) (a4 m c) (a5 m c) (a6 m c) (a7 m c) (ix4 r (0 : Fin 1) h l) := by
  refine ((slice_at _ off sl (by omega) r l).trans (y_at m c t0_6 r _)).trans (Eq.trans ?_ (v58_at (a0 m c) (a3 m c) (a4 m c) (a5 m c) (a6 m c) (a7 m c) r h l).symm)
  refine congrArg (fun k => P m c (ix3 r (0 : Fin 1) k)) (Fin.ext ?_)
  show (t0_6 : Fin cfg0.N).val * 512 + (off + l.val) = 3328 + (h.val * 128 + l.val)
  rw [t6]; omega

end Cert.QkvIdeal.Hand

end
-- ==== Proof.QkvOut.lean ====
module

public import proofs.«01_k».proof.Proof.QkvArrays

@[expose] public section

set_option backward.proofsInPublic true
set_option maxRecDepth 16384

noncomputable section

/-! ## The blocks stored head by head -/

namespace Cert.QkvIdeal.Hand

open Cert.QkvIdeal Cert.QkvIdeal.Gen
open Cert.QkvRefIdeal.Read Cert.Codes
open Idealize.ShloMosaic Idealize.ShloMosaic.TcCoe Idealize.ShloMosaic.StableHlo Idealize.SL.Sem

variable (m : (ℓ : Loc nD τ sig) → Buf (Elt Ideal) ℓ) (c : Dev nD)

/-- The reference's key codes, head first. -/
def KC : Vec Ideal S2x96x128 .i8 := fun y => val_main_v102 (F := Ideal) (a0 m c) (a1 m c) (a2 m c) (a3 m c) (a4 m c) (a5 m c) (a6 m c) (a7 m c) (ix4 (y 1) (0 : Fin 1) (y 0) (y 2))
/-- The reference's key scales, head first. -/
def KS : Vec Ideal S2x96 .f32 := fun y => val_main_v95 (F := Ideal) (a0 m c) (a1 m c) (a2 m c) (a3 m c) (a4 m c) (a5 m c) (a6 m c) (a7 m c) (ix3 (y 1) (0 : Fin 1) (y 0))
/-- The reference's value codes, head first. -/
def VC : Vec Ideal S2x96x128 .i8 := fun y => val_main_v116 (F := Ideal) (a0 m c) (a3 m c) (a4 m c) (a5 m c) (a6 m c) (a7 m c) (ix4 (y 1) (0 : Fin 1) (y 0) (y 2))
/-- The reference's value scales, head first. -/
def VS : Vec Ideal S2x96 .f32 := fun y => val_main_v109 (F := Ideal) (a0 m c) (a3 m c) (a4 m c) (a5 m c) (a6 m c) (a7 m c) (ix3 (y 1) (0 : Fin 1) (y 0))
/-- The reference's rotated queries. -/
def Q : Vec Ideal S96x3072 .bf16 := fun i => val_main_v73 (F := Ideal) (a0 m c) (a1 m c) (a2 m c) (a3 m c) (a4 m c) (a5 m c) (a6 m c) (a7 m c)
  (ix4 (i 0) (0 : Fin 1) (⟨(i 1).val / 128, by have : (i 1).val < 3072 := (i 1).isLt; omega⟩ : Fin 24) (⟨(i 1).val % 128, by omega⟩ : Fin 128))

theorem KC_at (y : S2x96x128.Idx) (x : S1x96x128.Idx) (h : Fin 2) (h0 : (y 0).val = h.val) (h1 : (y 1).val = (x 1).val) (h2 : (y 2).val = (x 2).val)
    (off : ℕ) (sl) (e : off = h.val * 128) :
    k0_pay11 (addf (mulf (extractStridedSlice S96x128 ![0, off] (Y m c t0_6) sl) (k0_pay22 (iblk m c 3 t0_6)))
        (mulf (dynamicRotate 1 64#32 none (extractStridedSlice S96x128 ![0, off] (Y m c t0_6) sl) rotates_S96x128_d1) (k0_pay23 (iblk m c 4 t0_6))))
      (headScale (addf (mulf (extractStridedSlice S96x128 ![0, off] (Y m c t0_6) sl) (k0_pay22 (iblk m c 3 t0_6)))
        (mulf (dynamicRotate 1 64#32 none (extractStridedSlice S96x128 ![0, off] (Y m c t0_6) sl) rotates_S96x128_d1) (k0_pay23 (iblk m c 4 t0_6))))) x
      = KC m c y := by
  have hx : x = ix3 (0 : Fin 1) (x 1) (x 2) := by
    funext a; fin_cases a; exacts [Subsingleton.elim (α := Fin 1) _ _, rfl, rfl]
  rw [hx]
  refine (k_codes_at _ _ (a0 m c) (a1 m c) (a2 m c) (a3 m c) (a4 m c) (a5 m c) (a6 m c) (a7 m c) h (k_rot m c h off sl e)
    (k_scale_at _ (a0 m c) (a1 m c) (a2 m c) (a3 m c) (a4 m c) (a5 m c) (a6 m c) (a7 m c) h (k_rot m c h off sl e)) (x 1) (x 2)).trans ?_
  have e0 : y 0 = h := Fin.ext h0
  have e1 : y 1 = x 1 := Fin.ext h1
  have e2 : y 2 = x 2 := Fin.ext h2
  unfold KC
  rw [e0, e1, e2]

theorem VC_at (y : S2x96x128.Idx) (x : S1x96x128.Idx) (h : Fin 2) (h0 : (y 0).val = h.val) (h1 : (y 1).val = (x 1).val) (h2 : (y 2).val = (x 2).val)
    (off : ℕ) (sl) (e : off = 256 + h.val * 128) :
    k0_pay11 (extractStridedSlice S96x128 ![0, off] (Y m c t0_6) sl)
      (headScale (extractStridedSlice S96x128 ![0, off] (Y m c t0_6) sl)) x
      = VC m c y := by
  have hx : x = ix3 (0 : Fin 1) (x 1) (x 2) := by
    funext a; fin_cases a; exacts [Subsingleton.elim (α := Fin 1) _ _, rfl, rfl]
  rw [hx]
  refine (v_codes_at _ _ (a0 m c) (a3 m c) (a4 m c) (a5 m c) (a6 m c) (a7 m c) h (v_slice m c h off sl e)
    (v_scale_at _ (a0 m c) (a3 m c) (a4 m c) (a5 m c) (a6 m c) (a7 m c) h (v_slice m c h off sl e)) (x 1) (x 2)).trans ?_
  have e0 : y 0 = h := Fin.ext h0
  have e1 : y 1 = x 1 := Fin.ext h1
  have e2 : y 2 = x 2 := Fin.ext h2
  unfold VC
  rw [e0, e1, e2]

theorem KS_at (y : S2x96.Idx) (x : S1x96.Idx) (h : Fin 2) (h0 : (y 0).val = h.val) (h1 : (y 1).val = (x 1).val)
    (off : ℕ) (sl) (e : off = h.val * 128) :
    k0_pay12 (headScale (addf (mulf (extractStridedSlice S96x128 ![0, off] (Y m c t0_6) sl) (k0_pay22 (iblk m c 3 t0_6)))
        (mulf (dynamicRotate 1 64#32 none (extractStridedSlice S96x128 ![0, off] (Y m c t0_6) sl) rotates_S96x128_d1) (k0_pay23 (iblk m c 4 t0_6))))) x = KS m c y := by
  have hx : x = ix2 (0 : Fin 1) (x 1) := by
    funext a; fin_cases a; exacts [Subsingleton.elim (α := Fin 1) _ _, rfl]
  rw [hx]
  refine ((row_scale _ (x 1)).trans (k_scale_at _ (a0 m c) (a1 m c) (a2 m c) (a3 m c) (a4 m c) (a5 m c) (a6 m c) (a7 m c) h (k_rot m c h off sl e) (x 1))).trans ?_
  have e0 : y 0 = h := Fin.ext h0
  have e1 : y 1 = x 1 := Fin.ext h1
  unfold KS
  rw [e0, e1]

theorem VS_at (y : S2x96.Idx) (x : S1x96.Idx) (h : Fin 2) (h0 : (y 0).val = h.val) (h1 : (y 1).val = (x 1).val)
    (off : ℕ) (sl) (e : off = 256 + h.val * 128) :
    k0_pay12 (headScale (extractStridedSlice S96x128 ![0, off] (Y m c t0_6) sl)) x = VS m c y := by
  have hx : x = ix2 (0 : Fin 1) (x 1) := by
    funext a; fin_cases a; exacts [Subsingleton.elim (α := Fin 1) _ _, rfl]
  rw [hx]
  refine ((row_scale _ (x 1)).trans (v_scale_at _ (a0 m c) (a3 m c) (a4 m c) (a5 m c) (a6 m c) (a7 m c) h (v_slice m c h off sl e) (x 1))).trans ?_
  have e0 : y 0 = h := Fin.ext h0
  have e1 : y 1 = x 1 := Fin.ext h1
  unfold VS
  rw [e0, e1]

theorem kc_at (y : S2x96x128.Idx) : kcC m c y = KC m c y := by
  unfold kcC kcOf
  canon_tiles x hh
  case piece0 => exact KC_at m c y x 1 (by rw [hh0]; show 1 + _ = 1; omega) (by omega) (by omega) 128 slices_S96x512_o0_128_S96x128 rfl
  case piece1 => exact KC_at m c y x 0 (by rw [hh0]; show _ = 0; omega) (by omega) (by omega) 0 slices_S96x512_o0_0_S96x128 rfl

theorem vc_at (y : S2x96x128.Idx) : vcC m c y = VC m c y := by
  unfold vcC vcOf
  canon_tiles x hh
  case piece0 => exact VC_at m c y x 1 (by rw [hh0]; show 1 + _ = 1; omega) (by omega) (by omega) 384 slices_S96x512_o0_384_S96x128 rfl
  case piece1 => exact VC_at m c y x 0 (by rw [hh0]; show _ = 0; omega) (by omega) (by omega) 256 slices_S96x512_o0_256_S96x128 rfl

theorem ks_at (y : S2x96.Idx) : ksC m c y = KS m c y := by
  unfold ksC ksOf
  canon_tiles x hh
  case piece0 => exact KS_at m c y x 1 (by rw [hh0]; show 1 + _ = 1; omega) (by omega) 128 slices_S96x512_o0_128_S96x128 rfl
  case piece1 => exact KS_at m c y x 0 (by rw [hh0]; show _ = 0; omega) (by omega) 0 slices_S96x512_o0_0_S96x128 rfl

theorem vs_at (y : S2x96.Idx) : vsC m c y = VS m c y := by
  unfold vsC vsOf
  canon_tiles x hh
  case piece0 => exact VS_at m c y x 1 (by rw [hh0]; show 1 + _ = 1; omega) (by omega) 384 slices_S96x512_o0_384_S96x128 rfl
  case piece1 => exact VS_at m c y x 0 (by rw [hh0]; show _ = 0; omega) (by omega) 256 slices_S96x512_o0_256_S96x128 rfl

theorem Q_at (t : Fin cfg0.N) (ht : t.val < 6) (i : S96x3072.Idx) (x : S96x128.Idx) (n : Fin 4) (h0 : (i 0).val = (x 0).val)
    (h1 : (i 1).val = t.val * 512 + (n.val * 128 + (x 1).val)) (off : ℕ) (sl) (e : off = n.val * 128) :
    addf (mulf (extractStridedSlice S96x128 ![0, off] (Y m c t) sl) (k0_pay22 (iblk m c 3 t)))
        (mulf (dynamicRotate 1 64#32 none (extractStridedSlice S96x128 ![0, off] (Y m c t) sl) rotates_S96x128_d1) (k0_pay23 (iblk m c 4 t))) x = Q m c i := by
  have hx : x = ix2 (x 0) (x 1) := by
    funext a; fin_cases a <;> rfl
  rw [hx]
  refine (q_rot m c t ht n off sl e (x 0) (x 1)).trans ?_
  have e0 : i 0 = x 0 := Fin.ext h0
  have l0 : (x 1).val < 128 := (x 1).isLt
  have e1 : (⟨(i 1).val / 128, by have : (i 1).val < 3072 := (i 1).isLt; omega⟩ : Fin 24) = ⟨t.val * 4 + n.val, q_lt t ht n⟩ := Fin.ext (by show (i 1).val / 128 = t.val * 4 + n.val; omega)
  have e2 : (⟨(i 1).val % 128, by omega⟩ : Fin 128) = x 1 := Fin.ext (by show (i 1).val % 128 = (x 1).val; omega)
  unfold Q
  rw [e0, e1, e2]

theorem q_at (t : Fin cfg0.N) (y : S96x512.Idx) (i : S96x3072.Idx) (h0 : (i 0).val = (y 0).val)
    (h1 : (i 1).val = min t.val 5 * 512 + (y 1).val) : qC m c t y = Q m c i := by
  have hq : (qPt t).val = min t.val 5 := rfl
  have hl : (qPt t).val < 6 := by omega
  rw [← hq] at h1
  unfold qC qOf
  canon_tiles x hh
  case piece0 => exact Q_at m c (qPt t) hl i x 3 (by omega) (by rw [h1, hh1]; rfl) 384 slices_S96x512_o0_384_S96x128 rfl
  case piece1 => exact Q_at m c (qPt t) hl i x 2 (by omega) (by rw [h1, hh1]; rfl) 256 slices_S96x512_o0_256_S96x128 rfl
  case piece2 => exact Q_at m c (qPt t) hl i x 1 (by omega) (by rw [h1, hh1]; rfl) 128 slices_S96x512_o0_128_S96x128 rfl
  case piece3 => exact Q_at m c (qPt t) hl i x 0 (by omega) (by rw [h1, hh1]; show _ = _ + (0 * 128 + _); omega) 0 slices_S96x512_o0_0_S96x128 rfl

end Cert.QkvIdeal.Hand

end
-- ==== Proof.QkvValue.lean ====
module

public import proofs.«01_k».proof.Defs
public import proofs.«01_k».proof.Proof.QkvOut
public import Idealize.ShloMosaic.Lib.Pipeline.ValueKit
public import Idealize.ShloMosaic.Lib.StableHlo.ReadAt
public import Idealize.ShloMosaic.Lib.Claim

@[expose] public section

set_option backward.proofsInPublic true
set_option maxRecDepth 16384

noncomputable section

/-! ## The result arrays of the qkv call -/

namespace Cert.QkvIdeal.Hand

open Cert.QkvIdeal Cert.QkvIdeal.Gen
open Cert.QkvRefIdeal.Read
open Idealize.ShloMosaic Idealize.ShloMosaic.TcCoe Idealize.ShloMosaic.StableHlo Idealize.SL.Sem

variable (m : (ℓ : Loc nD τ sig) → Buf (Elt Ideal) ℓ) (c : Dev nD)

/-- The reference's codes, without the unit axis. -/
def CODES : Vec Ideal S96x6144 .i8 := fun i => val_main_v36 (F := Ideal) (a0 m c) (a3 m c) (a4 m c) (ix3 (i 0) (0 : Fin 1) (i 1))
/-- The reference's scales, as a row. -/
def SCALE : Vec Ideal S1x96 .f32 := fun i => val_main_v29 (F := Ideal) (a0 m c) (a3 m c) (a4 m c) (ix2 (i 1) (0 : Fin 1))

theorem final8 : (dats m 0 c).arrAt 8 (cfgs 0).N = Q m c := by
  refine (dats m 0 c).arrAt_eq_of_covers 8 _ (by decide +kernel) fun t _ y => ?_
  blk_simp
  rw [after0_8]
  refine q_at m c t y _ ?_ ?_ <;> blk_simp [idx t]

theorem final9 : (dats m 0 c).arrAt 9 (cfgs 0).N = CODES m c := by
  refine (dats m 0 c).arrAt_eq_of_after_last 9 t0_6 (by decide +kernel) _ fun j => ?_
  blk_simp
  rw [after0_9]
  have e : (j : S96x6144.Idx) = ix2 (j 0) (j 1) := by funext a; fin_cases a <;> rfl
  exact (congrArg (codesC m c) e).trans (codes_at m c (j 0) (j 1))

theorem final10 : (dats m 0 c).arrAt 10 (cfgs 0).N = SCALE m c := by
  refine (dats m 0 c).arrAt_eq_of_after_last 10 t0_6 (by decide +kernel) _ fun j => ?_
  blk_simp
  rw [after0_10]
  have e : (j : S1x96.Idx) = ix2 (0 : Fin 1) (j 1) := by
    funext a; fin_cases a; exacts [Subsingleton.elim (α := Fin 1) _ _, rfl]
  exact (congrArg (scaleC m c) e).trans (scaleOut_at m c (j 1))

theorem final11 : (dats m 0 c).arrAt 11 (cfgs 0).N = KC m c := by
  refine (dats m 0 c).arrAt_eq_of_after_last 11 t0_6 (by decide +kernel) _ fun j => ?_
  blk_simp
  rw [after0_11]
  exact kc_at m c j

theorem final12 : (dats m 0 c).arrAt 12 (cfgs 0).N = KS m c := by
  refine (dats m 0 c).arrAt_eq_of_after_last 12 t0_6 (by decide +kernel) _ fun j => ?_
  blk_simp
  rw [after0_12]
  exact ks_at m c j

theorem final13 : (dats m 0 c).arrAt 13 (cfgs 0).N = VC m c := by
  refine (dats m 0 c).arrAt_eq_of_after_last 13 t0_6 (by decide +kernel) _ fun j => ?_
  blk_simp
  rw [after0_13]
  exact vc_at m c j

theorem final14 : (dats m 0 c).arrAt 14 (cfgs 0).N = VS m c := by
  refine (dats m 0 c).arrAt_eq_of_after_last 14 t0_6 (by decide +kernel) _ fun j => ?_
  blk_simp
  rw [after0_14]
  exact vs_at m c j

/-- The queries, head after head in a row. -/
theorem q_flat : Q m c = val_main_v118 (F := Ideal) (a0 m c) (a1 m c) (a2 m c) (a3 m c) (a4 m c) (a5 m c) (a6 m c) (a7 m c) := by
  funext i
  rw [val_main_v118_apply, val_main_v117_apply]
  show val_main_v73 (F := Ideal) _ _ _ _ _ _ _ _ _ = val_main_v73 (F := Ideal) _ _ _ _ _ _ _ _ _
  congr 1
  have h0 : (i 0).val < 96 := (i 0).isLt
  have h1 : (i 1).val < 3072 := (i 1).isLt
  funext a
  fin_cases a
  · refine Fin.ext ?_
    show (i 0).val = ((i 0).val * 3072 + (i 1).val) / 3072
    omega
  · exact Subsingleton.elim (α := Fin 1) _ _
  · refine Fin.ext ?_
    show (i 1).val / 128 = ((i 0).val * 3072 + (i 1).val) / 128 % 24
    omega
  · refine Fin.ext ?_
    show (i 1).val % 128 = ((i 0).val * 3072 + (i 1).val) % 128
    omega

theorem tail_main_v10 :
    Pipeline.afterTail₀ cfgs (dats m) 0 (V0 m) [hostOps1] c main_v10 = val_main_v36 (F := Ideal) (a0 m c) (a3 m c) (a4 m c) := by
  have e : Pipeline.afterTail₀ cfgs (dats m) 0 (V0 m) [hostOps1] c main_v10
      = shapeCast S96x1x6144 ((dats m 0 c).arrAt 9 (cfgs 0).N) shapeCasts_S96x6144_S96x1x6144 := by
    unfold Pipeline.afterTail₀
    show StableHlo.after hostOps1 _ _ = _
    after_results
    exact congrArg (fun z => shapeCast S96x1x6144 z shapeCasts_S96x6144_S96x1x6144)
      (Pipeline.withArrays_arr (cfgs 0).spec (by decide) c (V0 m c) (fun w => (dats m 0 c).arrAt w (cfgs 0).N) 9)
  rw [e, final9]
  funext i
  idx_vars i
  have h0 : i0.val < 96 := i0.isLt
  have h1 : i1.val < 1 := i1.isLt
  have h2 : i2.val < 6144 := i2.isLt
  refine (shapeCast_apply (CODES m c) shapeCasts_S96x6144_S96x1x6144 (ix3 i0 i1 i2) (ix2 i0 i2) ?_).trans ?_
  · rewrite [Shape.rowMajor_val_three, Shape.rowMajor_val_two]
    show i0.val * 6144 + i2.val = (i0.val * 1 + i1.val) * 6144 + i2.val
    omega
  · show val_main_v36 (F := Ideal) _ _ _ (ix3 i0 (0 : Fin 1) i2) = _
    rw [Subsingleton.elim i1 (0 : Fin 1)]

theorem tail_main_v11 :
    Pipeline.afterTail₀ cfgs (dats m) 0 (V0 m) [hostOps1] c main_v11 = val_main_v29 (F := Ideal) (a0 m c) (a3 m c) (a4 m c) := by
  have e : Pipeline.afterTail₀ cfgs (dats m) 0 (V0 m) [hostOps1] c main_v11
      = shapeCast S96x1 ((dats m 0 c).arrAt 10 (cfgs 0).N) shapeCasts_S1x96_S96x1 := by
    unfold Pipeline.afterTail₀
    show StableHlo.after hostOps1 _ _ = _
    after_results
    exact congrArg (fun z => shapeCast S96x1 z shapeCasts_S1x96_S96x1)
      (Pipeline.withArrays_arr (cfgs 0).spec (by decide) c (V0 m c) (fun w => (dats m 0 c).arrAt w (cfgs 0).N) 10)
  rw [e, final10]
  funext i
  idx_vars i
  pointwise [SCALE]
  rw [Subsingleton.elim i1 (0 : Fin 1)]

theorem tail_main_v13 :
    Pipeline.afterTail₀ cfgs (dats m) 0 (V0 m) [hostOps1] c main_v13 = val_main_v102 (F := Ideal) (a0 m c) (a1 m c) (a2 m c) (a3 m c) (a4 m c) (a5 m c) (a6 m c) (a7 m c) := by
  have e : Pipeline.afterTail₀ cfgs (dats m) 0 (V0 m) [hostOps1] c main_v13
      = shapeCast S96x1x2x128 (transpose S96x2x128 [1, 0, 2] ((dats m 0 c).arrAt 11 (cfgs 0).N) transposes_S2x96x128_S96x2x128_1_0_2) shapeCasts_S96x2x128_S96x1x2x128 := by
    unfold Pipeline.afterTail₀
    show StableHlo.after hostOps1 _ _ = _
    after_results
    exact congrArg (fun z => shapeCast S96x1x2x128 (transpose S96x2x128 [1, 0, 2] z transposes_S2x96x128_S96x2x128_1_0_2) shapeCasts_S96x2x128_S96x1x2x128)
      (Pipeline.withArrays_arr (cfgs 0).spec (by decide) c (V0 m c) (fun w => (dats m 0 c).arrAt w (cfgs 0).N) 11)
  rw [e, final11]
  funext i
  idx_vars i
  pointwise [KC]
  rw [Subsingleton.elim i1 (0 : Fin 1)]

theorem tail_main_v15 :
    Pipeline.afterTail₀ cfgs (dats m) 0 (V0 m) [hostOps1] c main_v15 = val_main_v95 (F := Ideal) (a0 m c) (a1 m c) (a2 m c) (a3 m c) (a4 m c) (a5 m c) (a6 m c) (a7 m c) := by
  have e : Pipeline.afterTail₀ cfgs (dats m) 0 (V0 m) [hostOps1] c main_v15
      = shapeCast S96x1x2 (transpose S96x2 [1, 0] ((dats m 0 c).arrAt 12 (cfgs 0).N) transposes_S2x96_S96x2_1_0) shapeCasts_S96x2_S96x1x2 := by
    unfold Pipeline.afterTail₀
    show StableHlo.after hostOps1 _ _ = _
    after_results
    exact congrArg (fun z => shapeCast S96x1x2 (transpose S96x2 [1, 0] z transposes_S2x96_S96x2_1_0) shapeCasts_S96x2_S96x1x2)
      (Pipeline.withArrays_arr (cfgs 0).spec (by decide) c (V0 m c) (fun w => (dats m 0 c).arrAt w (cfgs 0).N) 12)
  rw [e, final12]
  funext i
  idx_vars i
  pointwise [KS]
  rw [Subsingleton.elim i1 (0 : Fin 1)]

theorem tail_main_v17 :
    Pipeline.afterTail₀ cfgs (dats m) 0 (V0 m) [hostOps1] c main_v17 = val_main_v116 (F := Ideal) (a0 m c) (a3 m c) (a4 m c) (a5 m c) (a6 m c) (a7 m c) := by
  have e : Pipeline.afterTail₀ cfgs (dats m) 0 (V0 m) [hostOps1] c main_v17
      = shapeCast S96x1x2x128 (transpose S96x2x128 [1, 0, 2] ((dats m 0 c).arrAt 13 (cfgs 0).N) transposes_S2x96x128_S96x2x128_1_0_2) shapeCasts_S96x2x128_S96x1x2x128 := by
    unfold Pipeline.afterTail₀
    show StableHlo.after hostOps1 _ _ = _
    after_results
    exact congrArg (fun z => shapeCast S96x1x2x128 (transpose S96x2x128 [1, 0, 2] z transposes_S2x96x128_S96x2x128_1_0_2) shapeCasts_S96x2x128_S96x1x2x128)
      (Pipeline.withArrays_arr (cfgs 0).spec (by decide) c (V0 m c) (fun w => (dats m 0 c).arrAt w (cfgs 0).N) 13)
  rw [e, final13]
  funext i
  idx_vars i
  pointwise [VC]
  rw [Subsingleton.elim i1 (0 : Fin 1)]

theorem tail_main_v19 :
    Pipeline.afterTail₀ cfgs (dats m) 0 (V0 m) [hostOps1] c main_v19 = val_main_v109 (F := Ideal) (a0 m c) (a3 m c) (a4 m c) (a5 m c) (a6 m c) (a7 m c) := by
  have e : Pipeline.afterTail₀ cfgs (dats m) 0 (V0 m) [hostOps1] c main_v19
      = shapeCast S96x1x2 (transpose S96x2 [1, 0] ((dats m 0 c).arrAt 14 (cfgs 0).N) transposes_S2x96_S96x2_1_0) shapeCasts_S96x2_S96x1x2 := by
    unfold Pipeline.afterTail₀
    show StableHlo.after hostOps1 _ _ = _
    after_results
    exact congrArg (fun z => shapeCast S96x1x2 (transpose S96x2 [1, 0] z transposes_S2x96_S96x2_1_0) shapeCasts_S96x2_S96x1x2)
      (Pipeline.withArrays_arr (cfgs 0).spec (by decide) c (V0 m c) (fun w => (dats m 0 c).arrAt w (cfgs 0).N) 14)
  rw [e, final14]
  funext i
  idx_vars i
  pointwise [VS]
  rw [Subsingleton.elim i1 (0 : Fin 1)]

end Cert.QkvIdeal.Hand

open Idealize.ShloMosaic Idealize.ShloMosaic.TcCoe Idealize.ShloMosaic.StableHlo Idealize.SL.Sem
open Cert.QkvRefIdeal.Read

/-- The qkv kernel and its reference compute the same seven results. -/
theorem Cert.algebraic_Qkv : Cert.algebraic_QkvIdeal_QkvRefIdeal := by
  intro m g m' g' hpre hagree
  refine ⟨fun (c : Dev Cert.QkvIdeal.nD) => val_main_v118 (F := Ideal) (Cert.QkvIdeal.Hand.a0 m c) (Cert.QkvIdeal.Hand.a1 m c) (Cert.QkvIdeal.Hand.a2 m c) (Cert.QkvIdeal.Hand.a3 m c) (Cert.QkvIdeal.Hand.a4 m c) (Cert.QkvIdeal.Hand.a5 m c) (Cert.QkvIdeal.Hand.a6 m c) (Cert.QkvIdeal.Hand.a7 m c),
    fun (c : Dev Cert.QkvIdeal.nD) => val_main_v36 (F := Ideal) (Cert.QkvIdeal.Hand.a0 m c) (Cert.QkvIdeal.Hand.a3 m c) (Cert.QkvIdeal.Hand.a4 m c),
    fun (c : Dev Cert.QkvIdeal.nD) => val_main_v29 (F := Ideal) (Cert.QkvIdeal.Hand.a0 m c) (Cert.QkvIdeal.Hand.a3 m c) (Cert.QkvIdeal.Hand.a4 m c),
    fun (c : Dev Cert.QkvIdeal.nD) => val_main_v102 (F := Ideal) (Cert.QkvIdeal.Hand.a0 m c) (Cert.QkvIdeal.Hand.a1 m c) (Cert.QkvIdeal.Hand.a2 m c) (Cert.QkvIdeal.Hand.a3 m c) (Cert.QkvIdeal.Hand.a4 m c) (Cert.QkvIdeal.Hand.a5 m c) (Cert.QkvIdeal.Hand.a6 m c) (Cert.QkvIdeal.Hand.a7 m c),
    fun (c : Dev Cert.QkvIdeal.nD) => val_main_v95 (F := Ideal) (Cert.QkvIdeal.Hand.a0 m c) (Cert.QkvIdeal.Hand.a1 m c) (Cert.QkvIdeal.Hand.a2 m c) (Cert.QkvIdeal.Hand.a3 m c) (Cert.QkvIdeal.Hand.a4 m c) (Cert.QkvIdeal.Hand.a5 m c) (Cert.QkvIdeal.Hand.a6 m c) (Cert.QkvIdeal.Hand.a7 m c),
    fun (c : Dev Cert.QkvIdeal.nD) => val_main_v116 (F := Ideal) (Cert.QkvIdeal.Hand.a0 m c) (Cert.QkvIdeal.Hand.a3 m c) (Cert.QkvIdeal.Hand.a4 m c) (Cert.QkvIdeal.Hand.a5 m c) (Cert.QkvIdeal.Hand.a6 m c) (Cert.QkvIdeal.Hand.a7 m c),
    fun (c : Dev Cert.QkvIdeal.nD) => val_main_v109 (F := Ideal) (Cert.QkvIdeal.Hand.a0 m c) (Cert.QkvIdeal.Hand.a3 m c) (Cert.QkvIdeal.Hand.a4 m c) (Cert.QkvIdeal.Hand.a5 m c) (Cert.QkvIdeal.Hand.a6 m c) (Cert.QkvIdeal.Hand.a7 m c), ?_, ?_⟩
  · run_from Cert.QkvIdeal.Hand.run_main m g
    all_goals clear hagree hpre
    · exact (Cert.QkvIdeal.Hand.final8 m c).trans (Cert.QkvIdeal.Hand.q_flat m c)
    · exact Cert.QkvIdeal.Hand.tail_main_v10 m c
    · exact Cert.QkvIdeal.Hand.tail_main_v11 m c
    · exact Cert.QkvIdeal.Hand.tail_main_v13 m c
    · exact Cert.QkvIdeal.Hand.tail_main_v15 m c
    · exact Cert.QkvIdeal.Hand.tail_main_v17 m c
    · exact Cert.QkvIdeal.Hand.tail_main_v19 m c
    · exact Cert.QkvIdeal.Gen.W_main_arg0 m _ c
    · exact Cert.QkvIdeal.Gen.W_main_arg1 m _ c
    · exact Cert.QkvIdeal.Gen.W_main_arg2 m _ c
    · exact Cert.QkvIdeal.Gen.W_main_arg3 m _ c
    · exact Cert.QkvIdeal.Gen.W_main_arg4 m _ c
    · exact Cert.QkvIdeal.Gen.W_main_arg6 m _ c
    · exact Cert.QkvIdeal.Gen.W_main_arg7 m _ c
  · refine Idealize.ShloMosaic.θ_run_mono (Cert.QkvRefIdeal.Value.run m' g') ?_
    intro r hr c
    have h := hr c
    have e0 : launchContents m' c (Proc.devRef .tc Cert.QkvRefIdeal.main_arg0) = Cert.QkvIdeal.Hand.a0 m c := (hagree c).1
    have e1 : launchContents m' c (Proc.devRef .tc Cert.QkvRefIdeal.main_arg1) = Cert.QkvIdeal.Hand.a1 m c := (hagree c).2.1
    have e2 : launchContents m' c (Proc.devRef .tc Cert.QkvRefIdeal.main_arg2) = Cert.QkvIdeal.Hand.a2 m c := (hagree c).2.2.1
    have e3 : launchContents m' c (Proc.devRef .tc Cert.QkvRefIdeal.main_arg3) = Cert.QkvIdeal.Hand.a3 m c := (hagree c).2.2.2.1
    have e4 : launchContents m' c (Proc.devRef .tc Cert.QkvRefIdeal.main_arg4) = Cert.QkvIdeal.Hand.a4 m c := (hagree c).2.2.2.2.1
    have e5 : launchContents m' c (Proc.devRef .tc Cert.QkvRefIdeal.main_arg5) = Cert.QkvIdeal.Hand.a5 m c := (hagree c).2.2.2.2.2.1
    have e6 : launchContents m' c (Proc.devRef .tc Cert.QkvRefIdeal.main_arg6) = Cert.QkvIdeal.Hand.a6 m c := (hagree c).2.2.2.2.2.2.1
    have e7 : launchContents m' c (Proc.devRef .tc Cert.QkvRefIdeal.main_arg7) = Cert.QkvIdeal.Hand.a7 m c := (hagree c).2.2.2.2.2.2.2
    exact ⟨h.1.trans ((val_main_v118_eq (F := Ideal) (launchContents m' c)).trans (by rw [e0, e1, e2, e3, e4, e5, e6, e7])),
      h.2.1.trans ((val_main_v36_eq (F := Ideal) (launchContents m' c)).trans (by rw [e0, e3, e4])),
      h.2.2.1.trans ((val_main_v29_eq (F := Ideal) (launchContents m' c)).trans (by rw [e0, e3, e4])),
      h.2.2.2.1.trans ((val_main_v102_eq (F := Ideal) (launchContents m' c)).trans (by rw [e0, e1, e2, e3, e4, e5, e6, e7])),
      h.2.2.2.2.1.trans ((val_main_v95_eq (F := Ideal) (launchContents m' c)).trans (by rw [e0, e1, e2, e3, e4, e5, e6, e7])),
      h.2.2.2.2.2.1.trans ((val_main_v116_eq (F := Ideal) (launchContents m' c)).trans (by rw [e0, e3, e4, e5, e6, e7])),
      h.2.2.2.2.2.2.1.trans ((val_main_v109_eq (F := Ideal) (launchContents m' c)).trans (by rw [e0, e3, e4, e5, e6, e7])),
      h.2.2.2.2.2.2.2⟩

end
-- ==== Proof.OprojData.lean ====
module

public import proofs.«01_k».proof.Proof.Gen.OprojIdeal.Frame
public import proofs.«01_k».proof.Proof.Gen.OprojIdeal.Skeleton
public import Idealize.ShloMosaic.Lib.Pipeline.ValueKit
public import Idealize.ShloMosaic.Lib.Pipeline.TableIdle
public import Idealize.ShloMosaic.Lib.Pipeline.DatRel
public import Idealize.ShloMosaic.Lib.Pipeline.ArrRel
public import Idealize.ShloMosaic.Lib.WholeRead
public import Idealize.ShloMosaic.Lib.VecWindow

@[expose] public section

/-! The data of the oproj call. Each point stores one slice of the residual row straight into its output window, so before
the last point the window still holds whatever it held in the columns not yet reached. Of that window the proof data say
only that the first slices are the row's; at the last point that names the whole window, and the other two outputs are
computed from it. -/

set_option maxRecDepth 16384

noncomputable section

namespace Cert.OprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the branch is taken -/

abbrev cond0 (i : grid0.Coords) : Prop := k0_cond1 i = 1#1
theorem hcond0 : ∀ t : Fin cfg0.N, cond0 (grid0.coords t) ↔ t.val = 11 := (by decide +kernel : ∀ t : Fin grid0.N, _)
theorem hoff : ∀ t : Fin cfg0.N, k0_off1 (grid0.coords t) = ![0, 512 * t.val] := (by decide +kernel : ∀ t : Fin grid0.N, _)

theorem z2 : ∀ a : Fin 2, (![0, 0] : Fin 2 → ℕ) a = 0 := by decide

theorem readAt_zero {sp : Space} {S : Shape} {e : EltTy} {M : Memref sig .tc sp S e} (h : M.IsWhole) (X : S.Idx → Elt F e)
    {off : Fin S.rank → Nat} (inb : ∀ a, off a + S.size a ≤ S.size a) (hz : ∀ a, off a = 0) :
    M.view.readAt (Elt F) (Rect.unit off (no_index S.size) inb).toLoadRect (h.unread X) = X := by
  funext x
  refine (h.readAt_unread X _ x).trans (congrArg X ?_)
  exact congrFun (View.ld_unit_lit (Val := fun _ => S.Idx) (e := e) inb (fun y => y) hz) x

theorem readCov_zero {sp : Space} {S : Shape} {e : EltTy} (v : View sig .tc sp S e)
    {off : Fin S.rank → Nat} (inb : ∀ a, off a + S.size a ≤ S.size a) (w : S.Idx → Elt F e) (hz : ∀ a, off a = 0) :
    v.readCov [(⟨Rect.unit off (no_index S.size) inb, w⟩ : View.Piece (Elt F) S e)] (Rect.unit off (no_index S.size) inb).toLoadRect = w :=
  View.readCov_unit_zero v (funext hz) inb w

/-- Stores that tile a window leave their closed contents in it, whatever was there. -/
theorem closed {sp : Space} {S : Shape} {e : EltTy} (v : View sig .tc sp S e) (f : v.ty.Contents (Elt F))
    (L : List (View.Piece (Elt F) S e)) (size : Fin S.rank → ℕ) (h : View.Piece.tiledL L size = true) :
    v.read (Elt F) (v.writes (Elt F) f L) = View.canon L :=
  View.read_writes_eq_canon v f L (View.cover_of_tiledL L size h)

/-- One store over the whole window leaves its payload. -/
theorem closed_whole {sp : Space} {S : Shape} {e : EltTy} (v : View sig .tc sp S e) (f : v.ty.Contents (Elt F))
    {off : Fin S.rank → ℕ} (inb : ∀ a, off a + S.size a ≤ S.size a) (w : S.Idx → Elt F e) (hz : ∀ a, off a = 0) :
    v.read (Elt F) (v.writes (Elt F) f [(⟨Rect.unit off (no_index S.size) inb, w⟩ : View.Piece (Elt F) S e)]) = w :=
  (View.read_writes_eq_canon v f _ fun y => ⟨_, List.mem_singleton_self _, by
    obtain rfl : off = fun _ => 0 := funext hz
    show y ∈ (Rect.whole S).set; rw [Rect.set_whole]; exact Finset.mem_univ y⟩).trans (View.canon_unit_zero (funext hz) inb w)

/-! ## The body's triple, case by case -/

/-- The residual row after a point: its slice of the row replaced. -/
abbrev put (i : grid0.Coords) (a : Vec F S96x6144 .f32) (x1 : Vec F S96x512 .bf16) (x2 : Vec F S96x3072 .i8) (x3 : Vec F S96x1 .f32) (x4 : Vec F S3072x512 .i8) (x5 : Vec F S1x512 .f32) (x6 : Vec F S1x512 .f32) : Vec F S96x6144 .f32 :=
  VecWindow.put a (k0_off1 i) S96x512.size (k0_pay1 x2 x4 x3 x5 x6 x1)

/-- The codes of a whole row under the norm's gain and bias. -/
abbrev codesOf (r : Vec F S96x6144 .f32) (x7 x8 : Vec F S1x6144 .f32) : Vec F S96x6144 .i8 := k0_pay2 (k0_pay5 r x7 x8) k0_pay6
/-- Its scales. -/
abbrev scaleOf (r : Vec F S96x6144 .f32) (x7 x8 : Vec F S1x6144 .f32) : Vec F S96x1 .f32 := k0_pay4 r x7 x8

section Triples
variable (c : Dev nD) (i : grid0.Coords)
  (arg1 : Memref sig .tc .vmem S96x512 .bf16) (harg1 : arg1.IsWhole)
  (arg2 : Memref sig .tc .vmem S96x3072 .i8) (harg2 : arg2.IsWhole)
  (arg3 : Memref sig .tc .vmem S96x1 .f32) (harg3 : arg3.IsWhole)
  (arg4 : Memref sig .tc .vmem S3072x512 .i8) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x6144 .f32) (harg7 : arg7.IsWhole)
  (arg8 : Memref sig .tc .vmem S1x6144 .f32) (harg8 : arg8.IsWhole)
  (arg9 : Memref sig .tc .vmem S96x6144 .f32) (harg9 : arg9.IsWhole)
  (arg10 : Memref sig .tc .vmem S96x6144 .i8) (harg10 : arg10.IsWhole)
  (arg11 : Memref sig .tc .vmem S96x1 .f32) (harg11 : arg11.IsWhole)
  (x1 : Vec F S96x512 .bf16) (x2 : Vec F S96x3072 .i8) (x3 : Vec F S96x1 .f32) (x4 : Vec F S3072x512 .i8) (x5 : Vec F S1x512 .f32) (x6 : Vec F S1x512 .f32) (x7 : Vec F S1x6144 .f32) (x8 : Vec F S1x6144 .f32) (a : Vec F S96x6144 .f32)

set_option maxHeartbeats 4000000 in
/-- Every point but the last: one slice of the row. -/
theorem body_mid (hc0 : ¬cond0 i) :
    ∀ (E : Set ℕ) (K : PUnit → sProp 𝕄),
      iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare a
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (put i a x1 x2 x3 x4 x5 x6)) -∗ K ⟨⟩))
        ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  intro E K
  simp only [cc0_oproj_eq_skeleton]; unfold cc0_oproj_skel
  simp only [k0_part1_eq_skeleton]; try unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  refine (View.read_writes_cons_put _ _ _ _ _ rfl).trans ?_
  rw [View.writes_nil, harg9.read_unread]
  simp (disch := exact z2) only [readAt_zero]

set_option maxHeartbeats 4000000 in
/-- The last point: the last slice, then the row is normalised and quantised. -/
theorem body_last (hc0 : cond0 i) :
    ∀ (E : Set ℕ) (K : PUnit → sProp 𝕄),
      iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare a
          ∗ (∃ d, owns (c : Thread nD τ) arg10 fullShare d)
          ∗ (∃ d, owns (c : Thread nD τ) arg11 fullShare d)
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (put i a x1 x2 x3 x4 x5 x6)
            ∗ owns (c : Thread nD τ) arg10 fullShare (codesOf (put i a x1 x2 x3 x4 x5 x6) x7 x8)
            ∗ owns (c : Thread nD τ) arg11 fullShare (scaleOf (put i a x1 x2 x3 x4 x5 x6) x7 x8)) -∗ K ⟨⟩))
        ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  intro E K
  simp only [cc0_oproj_eq_skeleton]; unfold cc0_oproj_skel
  simp only [k0_part1_eq_skeleton]; try unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    delta body_last.sl.H9_1
    refine (View.read_writes_cons_put _ _ _ _ _ rfl).trans ?_
    rw [View.writes_nil, harg9.read_unread]
    simp (disch := exact z2) only [readAt_zero]
  isplitl [H10]
  · iexists _; isplitr; swap; · iexact H10
    ipureintro
    refine (closed_whole _ _ _ _ z2).trans ?_
    dsimp only
    simp (disch := exact z2) only [readAt_zero]
    refine congrArg (fun r => codesOf r x7 x8) ?_
    delta body_last.sl.v27
    delta body_last.sl.H9_1
    rw [View.readAt_full]
    refine (View.read_writes_cons_put _ _ _ _ _ rfl).trans ?_
    rw [View.writes_nil, harg9.read_unread]
    simp (disch := exact z2) only [readAt_zero]
  iexists _; isplitr; swap; · iexact H11
  ipureintro
  refine (closed_whole _ _ _ _ z2).trans ?_
  dsimp only
  simp (disch := exact z2) only [readAt_zero]
  refine congrArg (fun r => scaleOf r x7 x8) ?_
  delta body_last.sl.v27
  delta body_last.sl.H9_1
  rw [View.readAt_full]
  refine (View.read_writes_cons_put _ _ _ _ _ rfl).trans ?_
  rw [View.writes_nil, harg9.read_unread]
  simp (disch := exact z2) only [readAt_zero]

end Triples

/-! ## What every point leaves -/

/-- The last point. -/
def tEnd : Fin cfg0.N := ⟨11, by decide⟩
/-- The slice of the residual row that point `t` computes. -/
def blkC (c : Dev nD) (t : Fin cfg0.N) : Vec F S96x512 .f32 :=
  k0_pay1 (iblk m c 1 t) (iblk m c 3 t) (iblk m c 2 t) (iblk m c 4 t) (iblk m c 5 t) (iblk m c 0 t)
/-- The whole residual row, each element from the point of its slice. -/
def rowC (c : Dev nD) : Vec F S96x6144 .f32 := fun j =>
  blkC m c ⟨(j 1).val / 512, by have h : (j 1).val < 6144 := (j 1).isLt; show _ < 12; omega⟩
    (ix2 (⟨(j 0).val, (j 0).isLt⟩ : Fin 96) (⟨(j 1).val % 512, Nat.mod_lt _ (by decide)⟩ : Fin 512))
/-- The first `n` slices of `a` are the row's. -/
def Filled (c : Dev nD) (n : ℕ) (a : Vec F S96x6144 .f32) : Prop := ∀ j : S96x6144.Idx, (j 1).val < 512 * n → a j = rowC m c j

theorem filled_put (c : Dev nD) (t : Fin cfg0.N) (a : Vec F S96x6144 .f32) (h : Filled m c t.val a) :
    Filled m c (t.val + 1) (put (grid0.coords t) a (iblk m c 0 t) (iblk m c 1 t) (iblk m c 2 t) (iblk m c 3 t) (iblk m c 4 t) (iblk m c 5 t)) := by
  intro j hj
  have h0 : (j 0).val < 96 := (j 0).isLt
  unfold put VecWindow.put
  rw [hoff t]
  by_cases hlt : (j 1).val < 512 * t.val
  · rw [dif_neg (fun hall => absurd (hall 1).1 (by show ¬ 512 * t.val ≤ (j 1).val; omega))]
    exact h j hlt
  · have hin : ∀ b : Fin 2, (![0, 512 * t.val] : Fin 2 → ℕ) b ≤ (j b).val ∧ (j b).val < (![0, 512 * t.val] : Fin 2 → ℕ) b + S96x512.size b :=
      Fin.forall_fin_two.mpr ⟨⟨Nat.zero_le _, by show (j 0).val < 0 + 96; omega⟩,
        ⟨by show 512 * t.val ≤ (j 1).val; omega, by show (j 1).val < 512 * t.val + 512; omega⟩⟩
    rw [dif_pos hin]
    unfold rowC
    have et : (⟨(j 1).val / 512, by have h : (j 1).val < 6144 := (j 1).isLt; show _ < 12; omega⟩ : Fin cfg0.N) = t :=
      Fin.ext (by show (j 1).val / 512 = t.val; omega)
    rw [et]
    refine congrArg (blkC m c t) ?_
    funext b
    refine Fin.ext ?_
    fin_cases b
    · show (j 0).val - 0 = (j 0).val
      omega
    · show (j 1).val - 512 * t.val = (j 1).val % 512
      omega

theorem filled_all (c : Dev nD) (a : Vec F S96x6144 .f32) (h : Filled m c 12 a) : a = rowC m c :=
  funext fun j => h j (by have h : (j 1).val < 6144 := (j 1).isLt; omega)

/-- The codes the last point writes. -/
def codesC (c : Dev nD) : Vec F S96x6144 .i8 := codesOf (rowC m c) (iblk m c 6 tEnd) (iblk m c 7 tEnd)
/-- The scales the last point writes. -/
def scaleC (c : Dev nD) : Vec F S96x1 .f32 := scaleOf (rowC m c) (iblk m c 6 tEnd) (iblk m c 7 tEnd)

/-- The proof data of the one pipeline. The residual row is named as the last point leaves it; before that it is held to
`Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rowC m c
    | ⟨9, _⟩ => codesC m c
    | ⟨10, _⟩ => scaleC m c
  Φ _ := Pipeline.ΦA spec0 c
  q _ := fullShare
  owed _ := 0

/-- The window held to a predicate: the residual row. -/
abbrev fgt : Fin cfg0.W → Bool := fun w => w.val == 8
/-- The predicate: after point `t` the slices up to `t` are the row's. -/
def Rl (c : Dev nD) (w : Fin cfg0.W) (t : Fin cfg0.N) (X : (cfg0.win w).block.Idx → Elt F (cfg0.win w).elt) : Prop :=
  match w, X with
  | ⟨8, _⟩, X => Filled m c (t.val + 1) X
  | _, _ => True
/-- The relational proof data. -/
abbrev rdat (c : Dev nD) : Pipeline.RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = rowC m c := by dsimp only [dats]
theorem after0_9 (c : Dev nD) (t : Fin cfg0.N) : (dats m 0 c).after 9 t = codesC m c := by dsimp only [dats]
theorem after0_10 (c : Dev nD) (t : Fin cfg0.N) : (dats m 0 c).after 10 t = scaleC m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem idle_codes : ∀ t : Fin cfg0.N, cfg0.idle 9 (cfg0.grid.coords t) = !decide (t.val = 11) := by decide +kernel
theorem idle_scale : ∀ t : Fin cfg0.N, cfg0.idle 10 (cfg0.grid.coords t) = !decide (t.val = 11) := by decide +kernel

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- What a point finds in the residual row's window: the slices of the points before it. -/
theorem finds_row (c : Dev nD) (t : Fin cfg0.N) (Y : Vec F S96x6144 .f32) (h : (rdat m c).Finds 8 t Y) : Filled m c t.val Y := by
  have hN : cfg0.N = 12 := N_0
  have ht := t.isLt
  by_cases h0 : t.val = 0
  · intro j hj; exact absurd hj (by omega)
  · rcases ((rdat m c).finds_of_pos ((cfg0.win 8).fetch_out rfl t) h0 Y).mp h with hf | hl
    · exact absurd ((flush0_8 _).mp hf) (by show ¬ (t.val - 1) % 12 = 11; omega)
    · have hr : Filled m c (t.val - 1 + 1) Y := (dats m 0 c).toRRel_leaves rfl hl
      rwa [Nat.sub_add_cancel (by omega)] at hr

/-! ## The body obligation -/

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdat m c).Finds 8 t Y⌝ ∗ owns (c : Thread nD τ) (st0_8 t) fullShare Y)
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, ⌜Rl m c 8 t X⌝ ∗ owns (c : Thread nD τ) (st0_8 t) fullShare X)
    ∗ (dats m 0 c).leavesExact 9 t
    ∗ (dats m 0 c).leavesExact 10 t)

/-- The same with the windows as the library takes them back. -/
def bodyPostL (c : Dev nD) (t : Fin cfg0.N) : sProp 𝕄 :=
  iprop((dats m 0 c).Φ t.succ
    ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (∃ X, ⌜Rl m c 8 t X⌝ ∗ owns (c : Thread nD τ) (st0_8 t) fullShare X)
    ∗ (dats m 0 c).leaves 9 t
    ∗ (dats m 0 c).leaves 10 t)

set_option maxHeartbeats 1000000 in
theorem post_leaves (c : Dev nD) (t : Fin cfg0.N) : bodyPost m c t ⊢ bodyPostL m c t := by
  unfold bodyPost bodyPostL
  iintro ⟨HR, Ho, H0, H1, H2, H3, H4, H5, H6, H7, H8, H9, H10⟩
  isplitl [HR]; · iexact HR
  isplitl [Ho]; · iexact Ho
  isplitl [H0]; · iapply ((dats m 0 c).leaves_intro 0 t); iexact H0
  isplitl [H1]; · iapply ((dats m 0 c).leaves_intro 1 t); iexact H1
  isplitl [H2]; · iapply ((dats m 0 c).leaves_intro 2 t); iexact H2
  isplitl [H3]; · iapply ((dats m 0 c).leaves_intro 3 t); iexact H3
  isplitl [H4]; · iapply ((dats m 0 c).leaves_intro 4 t); iexact H4
  isplitl [H5]; · iapply ((dats m 0 c).leaves_intro 5 t); iexact H5
  isplitl [H6]; · iapply ((dats m 0 c).leaves_intro 6 t); iexact H6
  isplitl [H7]; · iapply ((dats m 0 c).leaves_intro 7 t); iexact H7
  isplitl [H8]; · iexact H8
  isplitl [H9]; · iapply ((dats m 0 c).leaves_intro 9 t); iexact H9
  iapply ((dats m 0 c).leaves_intro 10 t); iexact H10

set_option maxHeartbeats 4000000 in
/-- Every point but the last. -/
theorem sound_mid (c : Dev nD) (t : Fin cfg0.N) (ht : t.val < 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl,
    Dat.leavesExact_idle (dats m 0 c) 9 t (by rw [idle_codes]; simp; omega) (Bool.eq_false_iff.mpr fun h => absurd ((flush0_9 t).mp h) (by omega)), Dat.leavesExact_idle (dats m 0 c) 10 t (by rw [idle_scale]; simp; omega) (Bool.eq_false_iff.mpr fun h => absurd ((flush0_10 t).mp h) (by omega)),
    after0_0, after0_1, after0_2, after0_3, after0_4, after0_5, after0_6, after0_7]
  iintro ⟨HR, Ho, ⟨%d0, H0⟩, ⟨%d1, H1⟩, ⟨%d2, H2⟩, ⟨%d3, H3⟩, ⟨%d4, H4⟩, ⟨%d5, H5⟩, ⟨%d6, H6⟩, ⟨%d7, H7⟩, ⟨%a, %ha, H8⟩, ⟨%d9, H9⟩, ⟨%d10, H10⟩⟩
  have hp := filled_put m c t a (finds_row m c t a ha)
  iapply (body_mid c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) a (fun h => absurd ((hcond0 t).mp h) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact hp
  isplitl [H9]; · iexists _; iexact H9
  iexists _; iexact H10

set_option maxHeartbeats 4000000 in
/-- The last point. -/
theorem sound_last (c : Dev nD) (t : Fin cfg0.N) (ht : t.val = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 9 t (by rw [idle_codes]; simp [ht]), leaves_live m c 10 t (by rw [idle_scale]; simp [ht]),
    after0_0, after0_1, after0_2, after0_3, after0_4, after0_5, after0_6, after0_7, after0_9, after0_10]
  iintro ⟨HR, Ho, ⟨%d0, H0⟩, ⟨%d1, H1⟩, ⟨%d2, H2⟩, ⟨%d3, H3⟩, ⟨%d4, H4⟩, ⟨%d5, H5⟩, ⟨%d6, H6⟩, ⟨%d7, H7⟩, ⟨%a, %ha, H8⟩, ⟨%d9, H9⟩, ⟨%d10, H10⟩⟩
  have hp := filled_put m c t a (finds_row m c t a ha)
  have hrow := filled_all m c _ (by rw [ht] at hp; exact hp)
  obtain rfl : t = tEnd := Fin.ext ht
  iapply (body_last c (grid0.coords tEnd) _ _ _ _ _ _ _ _ _ _ _ _ _ _ _ _ _ _ _ _ _ _ (iblk m c 0 tEnd) (iblk m c 1 tEnd) (iblk m c 2 tEnd) (iblk m c 3 tEnd) (iblk m c 4 tEnd) (iblk m c 5 tEnd) (iblk m c 6 tEnd) (iblk m c 7 tEnd) a ((hcond0 tEnd).mpr ht) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact hp
  unfold codesC scaleC
  rw [← hrow]
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := F)) Variants.none c none) Set.univ (bodyAt0 t) (fun _ => bodyPost m c t) := by
  have hN : cfg0.N = 12 := N_0
  have := t.isLt
  rcases Nat.lt_or_ge t.val 11 with h | h
  · exact sound_mid m c t h
  · exact sound_last m c t (by omega)

/-- The library's body obligation, at every point. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => post_leaves m c t

/-! ## The run and the frame -/

section Exact
variable {nD' : Nat} {τ' : Topo} {sig' : RefSig} {Val : EltTy → Type} {Λ' : Idealize.SL.Sem.Labels} {U : Type} [URA U] [∀ e, Nonempty (Val e)]
  {cfg : Cfg sig' Λ'} {c : Dev nD'} (dat : Dat τ' Val Unit ℕ U ℕ cfg c)

/-- If what a window held to a predicate leaves is named wherever it is written back, its array ends as the exact data say. -/
theorem arr_exact {fg : Fin cfg.W → Bool} {R : (w : Fin cfg.W) → Fin cfg.N → ((cfg.win w).block.Idx → Val (cfg.win w).elt) → Prop}
    (hdet : ∀ w u X, fg w = true → (cfg.win w).flush u = true → R w u X → dat.after w u = X)
    (w : Fin cfg.W) (G : Buf Val ((cfg.win w).arr.view.loc (c.tc : Thread nD' τ')))
    (h : (dat.toRRel fg R).ArrAt w cfg.N G) : G = dat.arrAt w cfg.N := by
  cases hw : fg w
  · exact (dat.toR_arrAt_iff w _ G).mp ((dat.toR.override_arrAt (by simp only [hw]) _ G).mp h)
  · obtain ⟨X, hX, hA⟩ := h.exists_exact
    exact hA dat.after fun u hu hf => hdet w u (X u) hw hf (dat.toRRel_leaves hw (hX u hu hf))

end Exact

theorem row_named (c : Dev nD) (w : Fin cfg0.W) (u : Fin cfg0.N) (X : (cfg0.win w).block.Idx → Elt F (cfg0.win w).elt)
    (hw : fgt w = true) (hf : (cfg0.win w).flush u = true) (hR : Rl m c w u X) : (dats m 0 c).after w u = X := by
  obtain rfl : w = 8 := Fin.ext (by simpa [fgt] using hw)
  have hN : cfg0.N = 12 := N_0
  have hu := u.isLt
  have h11 : u.val + 1 = 12 := by have := (flush0_8 u).mp hf; omega
  have hR' : Filled m c (u.val + 1) X := hR
  rw [h11] at hR'
  rw [after0_8]
  exact (filled_all m c X hR').symm

set_option backward.isDefEq.respectTransparency.types false in
set_option maxHeartbeats 800000 in
/-- The run: every array of the pipeline ends at what the proof data say, every other buffer as the call finds it, every
    semaphore at zero. -/
theorem run_main_quiescent : θ_run defs (onTc (τ := τ) (main (F := F))) (s₀ m ρ) (fun r => (Pipeline.FramePost cfgs (dats m) 0 (V m)) r ∧ r.2.sem = fun _ => 0) :=
  Pipeline.RDat.θ_run_frame_track cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)
    (Q' := fun r => (Pipeline.FramePost cfgs (dats m) 0 (V m)) r ∧ r.2.sem = fun _ => 0)
    (hQ' := fun r h => ⟨fun c => ⟨fun w => arr_exact (dats m 0 c) (row_named m c) w _ ((h.1 c).1 w), (h.1 c).2⟩, h.2⟩)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.OprojIdeal.Hand

end
-- ==== Proof.OprojRow.lean ====
module

public import proofs.«01_k».proof.Proof.OprojData
public import proofs.«01_k».proof.Proof.IdealInt
public import proofs.«01_k».proof.Proof.Gen.OprojRefIdeal.Run
public import proofs.«01_k».proof.Proof.Gen.OprojRefIdeal.Read
public import Idealize.ShloMosaic.Lib.Pointwise

@[expose] public section

set_option backward.proofsInPublic true
set_option maxRecDepth 16384

noncomputable section

/-! ## The oproj call: a slice of the residual row -/

namespace Cert.OprojIdeal.Hand

open Cert.OprojIdeal Cert.OprojIdeal.Gen
open Cert.OprojRefIdeal.Read Cert.Codes
open Idealize.ShloMosaic Idealize.ShloMosaic.TcCoe Idealize.ShloMosaic.StableHlo Idealize.SL.Sem

theorem slice_lt {o j w n : ℕ} (ho : o + w ≤ n) (hj : j < w) : o + j < n := by omega

section Rows
variable (x0 : Vec Ideal S96x512 .bf16) (x1 : Vec Ideal S96x3072 .i8) (x2 : Vec Ideal S96x1 .f32) (x3 : Vec Ideal S3072x512 .i8) (x4 x5 : Vec Ideal S1x512 .f32)
  (r0 : Vec Ideal S96x1x6144 .bf16) (r1 : Vec Ideal S96x3072 .i8) (r2 : Vec Ideal S96x1 .f32) (r3 : Vec Ideal ⟨2, ![3072, 6144]⟩ .i8)
  (r4 r5 : Vec Ideal ⟨1, ![6144]⟩ .f32)
  (o : ℕ) (ho : o + 512 ≤ 6144)
  (h0 : ∀ (r : Fin 96) (j : Fin 512), x0 (ix2 r j) = r0 (ix3 r (0 : Fin 1) (⟨o + j.val, slice_lt ho j.isLt⟩ : Fin 6144)))
  (h1 : ∀ (r : Fin 96) (k : Fin 3072), x1 (ix2 r k) = r1 (ix2 r k))
  (h2 : ∀ r : Fin 96, x2 (ix2 r (0 : Fin 1)) = r2 (ix2 r (0 : Fin 1)))
  (h3 : ∀ (k : Fin 3072) (j : Fin 512), x3 (ix2 k j) = r3 (ix2 k (⟨o + j.val, slice_lt ho j.isLt⟩ : Fin 6144)))
  (h4 : ∀ j : Fin 512, x4 (ix2 (0 : Fin 1) j) = r4 (ix1 (⟨o + j.val, slice_lt ho j.isLt⟩ : Fin 6144)))
  (h5 : ∀ j : Fin 512, x5 (ix2 (0 : Fin 1) j) = r5 (ix1 (⟨o + j.val, slice_lt ho j.isLt⟩ : Fin 6144)))

include h0 h1 h2 h3 h4 h5 in
/-- A slice of the kernel's residual row is the reference's residual at its columns. -/
theorem resid_at (r : Fin 96) (j : Fin 512) :
    k0_pay1 x1 x3 x2 x4 x5 x0 (ix2 r j) = val_main_v18 (F := Ideal) r0 r1 r2 r3 r4 r5 (ix3 r (0 : Fin 1) (⟨o + j.val, slice_lt ho j.isLt⟩ : Fin 6144)) := by
  pointwise [k0_pay1, h0, h1, h2, h3, h4, h5, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [sitofp_signExtend .f32 .bf16]

end Rows

end Cert.OprojIdeal.Hand

end
-- ==== Proof.OprojNorm.lean ====
module

public import proofs.«01_k».proof.Proof.OprojData
public import proofs.«01_k».proof.Proof.IdealInt
public import proofs.«01_k».proof.Proof.Gen.OprojRefIdeal.Run
public import proofs.«01_k».proof.Proof.Gen.OprojRefIdeal.Read
public import Idealize.ShloMosaic.Lib.Pointwise

@[expose] public section

set_option backward.proofsInPublic true
set_option maxRecDepth 16384

noncomputable section

/-! ## The oproj call: the norm of a row and its scale -/

namespace Cert.OprojIdeal.Hand

open Cert.OprojIdeal Cert.OprojIdeal.Gen
open Cert.OprojRefIdeal.Read Cert.Codes
open Idealize.ShloMosaic Idealize.ShloMosaic.TcCoe Idealize.ShloMosaic.StableHlo Idealize.SL.Sem

section Quant
variable (g : Vec Ideal S96x6144 .f32) (x6 x7 : Vec Ideal S1x6144 .f32)
  (r0 : Vec Ideal S96x1x6144 .bf16) (r1 : Vec Ideal S96x3072 .i8) (r2 : Vec Ideal S96x1 .f32) (r3 : Vec Ideal ⟨2, ![3072, 6144]⟩ .i8)
  (r4 r5 r6 r7 : Vec Ideal ⟨1, ![6144]⟩ .f32)
  (hg : ∀ (r : Fin 96) (k : Fin 6144), g (ix2 r k) = val_main_v18 (F := Ideal) r0 r1 r2 r3 r4 r5 (ix3 r (0 : Fin 1) k))
  (h6 : ∀ k : Fin 6144, x6 (ix2 (0 : Fin 1) k) = r6 (ix1 k))
  (h7 : ∀ k : Fin 6144, x7 (ix2 (0 : Fin 1) k) = r7 (ix1 k))

include hg h6 h7 in
theorem norm_at (r : Fin 96) (k : Fin 6144) :
    k0_pay3 g x6 x7 (ix2 r k) = val_main_v40 (F := Ideal) r0 r1 r2 r3 r4 r5 r6 r7 (ix3 r (0 : Fin 1) k) := by
  pointwise [k0_pay3, hg, h6, h7, val_main_v40, val_main_v39, val_main_v38, val_main_v37, val_main_v36, val_main_v35, val_main_v34, val_main_v33, val_main_v32, val_main_v31, val_main_v30, val_main_cst_3, val_main_v29, val_main_v28, val_main_cst_2, val_main_v27, val_main_v26, val_main_cst_1, val_main_v25, val_main_v24, val_main_v23, val_main_v22, val_main_v21, val_main_cst_0, val_main_v20, val_main_v19, val_main_cst]

include hg h6 h7 in
theorem scale_at (r : Fin 96) :
    k0_pay4 g x6 x7 (ix2 r (0 : Fin 1)) = val_main_v47 (F := Ideal) r0 r1 r2 r3 r4 r5 r6 r7 (ix2 r (0 : Fin 1)) := by
  pointwise [k0_pay4, id, norm_at g x6 x7 r0 r1 r2 r3 r4 r5 r6 r7 hg h6 h7, val_main_v47, val_main_call0_v1, val_main_call0_v0, val_main_cst_7, val_main_v46, val_main_v45, val_main_cst_6, val_main_v44, val_main_v43, val_main_cst_5, val_main_v42, val_main_cst_4, val_main_v41]

end Quant

end Cert.OprojIdeal.Hand

end
-- ==== Proof.OprojClip.lean ====
module

public import proofs.«01_k».proof.Proof.OprojData
public import proofs.«01_k».proof.Proof.IdealInt
public import proofs.«01_k».proof.Proof.Gen.OprojRefIdeal.Run
public import proofs.«01_k».proof.Proof.Gen.OprojRefIdeal.Read
public import Idealize.ShloMosaic.Lib.Pointwise

@[expose] public section

set_option backward.proofsInPublic true
set_option maxRecDepth 16384

noncomputable section

/-! ## The oproj call: the clipped, rounded quotients are codes -/

namespace Cert.OprojIdeal.Hand

open Cert.OprojIdeal Cert.OprojIdeal.Gen
open Cert.OprojRefIdeal.Read Cert.Codes
open Idealize.ShloMosaic Idealize.ShloMosaic.TcCoe Idealize.ShloMosaic.StableHlo Idealize.SL.Sem

section Quant
variable (r0 : Vec Ideal S96x1x6144 .bf16) (r1 : Vec Ideal S96x3072 .i8) (r2 : Vec Ideal S96x1 .f32) (r3 : Vec Ideal ⟨2, ![3072, 6144]⟩ .i8)
  (r4 r5 r6 r7 : Vec Ideal ⟨1, ![6144]⟩ .f32)

theorem clip_isCode (r : Fin 96) (k : Fin 6144) : IsCode (val_main_v52 (F := Ideal) r0 r1 r2 r3 r4 r5 r6 r7 (ix3 r (0 : Fin 1) k)) := by
  have h := isCode_clip (val_main_v50 (F := Ideal) r0 r1 r2 r3 r4 r5 r6 r7 (ix3 r (0 : Fin 1) k))
  pointwise [val_main_v52, val_main_call2_v4, val_main_call2_v3, val_main_call2_v2, val_main_call2_v1, val_main_call2_v0, val_main_c, val_main_c_8, val_main_v51]
  exact h

end Quant

end Cert.OprojIdeal.Hand

end
-- ==== Proof.OprojCodes.lean ====
module

public import proofs.«01_k».proof.Proof.OprojNorm
public import proofs.«01_k».proof.Proof.OprojClip
public import proofs.«01_k».proof.Proof.IdealInt
public import proofs.«01_k».proof.Proof.Gen.OprojRefIdeal.Run
public import proofs.«01_k».proof.Proof.Gen.OprojRefIdeal.Read
public import Idealize.ShloMosaic.Lib.Pointwise

@[expose] public section

set_option backward.proofsInPublic true
set_option maxRecDepth 16384

noncomputable section

/-! ## The oproj call: the codes of a row -/

namespace Cert.OprojIdeal.Hand

open Cert.OprojIdeal Cert.OprojIdeal.Gen
open Cert.OprojRefIdeal.Read Cert.Codes
open Idealize.ShloMosaic Idealize.ShloMosaic.TcCoe Idealize.ShloMosaic.StableHlo Idealize.SL.Sem

section Quant
variable (g : Vec Ideal S96x6144 .f32) (x6 x7 : Vec Ideal S1x6144 .f32)
  (r0 : Vec Ideal S96x1x6144 .bf16) (r1 : Vec Ideal S96x3072 .i8) (r2 : Vec Ideal S96x1 .f32) (r3 : Vec Ideal ⟨2, ![3072, 6144]⟩ .i8)
  (r4 r5 r6 r7 : Vec Ideal ⟨1, ![6144]⟩ .f32)
  (hg : ∀ (r : Fin 96) (k : Fin 6144), g (ix2 r k) = val_main_v18 (F := Ideal) r0 r1 r2 r3 r4 r5 (ix3 r (0 : Fin 1) k))
  (h6 : ∀ k : Fin 6144, x6 (ix2 (0 : Fin 1) k) = r6 (ix1 k))
  (h7 : ∀ k : Fin 6144, x7 (ix2 (0 : Fin 1) k) = r7 (ix1 k))

/-- The clipped quotients the kernel converts to codes. -/
def clipOf : FVec Ideal S96x6144 .f32 := minimumf k0_pay6 (k0_pay5 g x6 x7)

theorem codesOf_eq : codesOf g x6 x7 = fptosi 8 (clipOf g x6 x7) := by unfold codesOf clipOf k0_pay2; rfl

include hg h6 h7 in
theorem clip_at (r : Fin 96) (k : Fin 6144) :
    clipOf g x6 x7 (ix2 r k) = val_main_v52 (F := Ideal) r0 r1 r2 r3 r4 r5 r6 r7 (ix3 r (0 : Fin 1) k) := by
  pointwise [clipOf, k0_pay5, k0_pay6, norm_at g x6 x7 r0 r1 r2 r3 r4 r5 r6 r7 hg h6 h7, scale_at g x6 x7 r0 r1 r2 r3 r4 r5 r6 r7 hg h6 h7, val_main_v52, val_main_call2_v4, val_main_call2_v3, val_main_call2_v2, val_main_call2_v1, val_main_call2_v0, val_main_c, val_main_c_8, val_main_v51, val_main_v50, val_main_v49, val_main_v48]
  rfl

include hg h6 h7 in
theorem codes_at (r : Fin 96) (k : Fin 6144) :
    codesOf g x6 x7 (ix2 r k) = val_main_v54 (F := Ideal) r0 r1 r2 r3 r4 r5 r6 r7 (ix3 r (0 : Fin 1) k) := by
  rw [codesOf_eq]
  pointwise [val_main_v54, val_main_v53]
  refine (congrArg (Ideal.fptosi 8) (clip_at g x6 x7 r0 r1 r2 r3 r4 r5 r6 r7 hg h6 h7 r k)).trans ?_
  exact code_narrow (clip_isCode r0 r1 r2 r3 r4 r5 r6 r7 r k)

end Quant

end Cert.OprojIdeal.Hand

end
-- ==== Proof.OprojValue.lean ====
module

public import proofs.«01_k».proof.Defs
public import proofs.«01_k».proof.Proof.OprojRow
public import proofs.«01_k».proof.Proof.OprojCodes
public import Idealize.ShloMosaic.Lib.Pointwise
public import Idealize.ShloMosaic.Lib.Pipeline.ValueKit
public import Idealize.ShloMosaic.Lib.StableHlo.ReadAt
public import Idealize.ShloMosaic.Lib.Claim

@[expose] public section

set_option backward.proofsInPublic true
set_option maxRecDepth 16384

noncomputable section

/-! ## The oproj call's results: the residual, and the codes and scales of its norm -/

namespace Cert.OprojIdeal.Hand

open Cert.OprojIdeal Cert.OprojIdeal.Gen
open Cert.OprojRefIdeal.Read Cert.Codes
open Idealize.ShloMosaic Idealize.ShloMosaic.TcCoe Idealize.ShloMosaic.StableHlo Idealize.SL.Sem

variable (m : (ℓ : Loc nD τ sig) → Buf (Elt Ideal) ℓ) (c : Dev nD)

/-! The arguments. -/
abbrev a0 : Vec Ideal S96x1x6144 .bf16 := m ((c.tc : Thread nD τ).loc main_arg0)
abbrev a1 : Vec Ideal S96x3072 .i8 := m ((c.tc : Thread nD τ).loc main_arg1)
abbrev a2 : Vec Ideal S96x1 .f32 := m ((c.tc : Thread nD τ).loc main_arg2)
abbrev a3 : Vec Ideal ⟨2, ![3072, 6144]⟩ .i8 := m ((c.tc : Thread nD τ).loc main_arg3)
abbrev a4 : Vec Ideal ⟨1, ![6144]⟩ .f32 := m ((c.tc : Thread nD τ).loc main_arg4)
abbrev a5 : Vec Ideal ⟨1, ![6144]⟩ .f32 := m ((c.tc : Thread nD τ).loc main_arg5)
abbrev a6 : Vec Ideal ⟨1, ![6144]⟩ .f32 := m ((c.tc : Thread nD τ).loc main_arg6)
abbrev a7 : Vec Ideal ⟨1, ![6144]⟩ .f32 := m ((c.tc : Thread nD τ).loc main_arg7)

theorem idx : ∀ t : Fin cfg0.N, win0_0.index t = ![0, t.val] ∧ win0_1.index t = ![0, 0] ∧ win0_2.index t = ![0, 0]
    ∧ win0_3.index t = ![0, t.val] ∧ win0_4.index t = ![0, t.val] ∧ win0_5.index t = ![0, t.val] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem V_main_v0 : V m c main_v0 = shapeCast _ (m ((c.tc : Thread nD τ).loc main_arg0)) shapeCasts_S96x1x6144_S96x6144 := by
  show StableHlo.after hostOps0 (fun b => m (c, b)) _ = _
  after_results
  all_goals rfl
theorem V_main_v1 : V m c main_v1 = shapeCast _ (m ((c.tc : Thread nD τ).loc main_arg4)) shapeCasts_S6144_S1x6144 := by
  show StableHlo.after hostOps0 (fun b => m (c, b)) _ = _
  after_results
  all_goals rfl
theorem V_main_v2 : V m c main_v2 = shapeCast _ (m ((c.tc : Thread nD τ).loc main_arg5)) shapeCasts_S6144_S1x6144 := by
  show StableHlo.after hostOps0 (fun b => m (c, b)) _ = _
  after_results
  all_goals rfl
theorem V_main_v3 : V m c main_v3 = shapeCast _ (m ((c.tc : Thread nD τ).loc main_arg6)) shapeCasts_S6144_S1x6144 := by
  show StableHlo.after hostOps0 (fun b => m (c, b)) _ = _
  after_results
  all_goals rfl
theorem V_main_v4 : V m c main_v4 = shapeCast _ (m ((c.tc : Thread nD τ).loc main_arg7)) shapeCasts_S6144_S1x6144 := by
  show StableHlo.after hostOps0 (fun b => m (c, b)) _ = _
  after_results
  all_goals rfl
theorem rows_at (x : Vec Ideal S96x1x6144 .bf16) (i : S96x6144.Idx) :
    shapeCast S96x6144 x shapeCasts_S96x1x6144_S96x6144 i = x (ix3 (i 0) (0 : Fin 1) (i 1)) := by
  idx_vars i
  pointwise
theorem row_at (x : Vec Ideal ⟨1, ![6144]⟩ .f32) (i : S1x6144.Idx) :
    shapeCast S1x6144 x shapeCasts_S6144_S1x6144 i = x (ix1 (i 1)) := by
  idx_vars i
  pointwise

theorem col_lt (t : Fin cfg0.N) (j : Fin 512) : t.val * 512 + j.val < 6144 := by
  have : t.val < 12 := lt_of_lt_of_eq t.isLt (by decide)
  omega

theorem blk_x (t : Fin cfg0.N) (r : Fin 96) (j : Fin 512) :
    iblk m c 0 t (ix2 r j) = a0 m c (ix3 r (0 : Fin 1) (⟨t.val * 512 + j.val, col_lt t j⟩ : Fin 6144)) := by
  blk_simp [iblk, idx t]
  rw [V_main_v0, rows_at]
  blk_ext [idx t]
theorem blk_c (t : Fin cfg0.N) (r : Fin 96) (k : Fin 3072) : iblk m c 1 t (ix2 r k) = a1 m c (ix2 r k) := by
  blk_ext [iblk, V_main_arg1, idx t]
theorem blk_sc (t : Fin cfg0.N) (r : Fin 96) : iblk m c 2 t (ix2 r (0 : Fin 1)) = a2 m c (ix2 r (0 : Fin 1)) := by
  blk_ext [iblk, V_main_arg2, idx t]
theorem blk_w (t : Fin cfg0.N) (k : Fin 3072) (j : Fin 512) :
    iblk m c 3 t (ix2 k j) = a3 m c (ix2 k (⟨t.val * 512 + j.val, col_lt t j⟩ : Fin 6144)) := by
  blk_ext [iblk, V_main_arg3, idx t]
theorem blk_s (t : Fin cfg0.N) (j : Fin 512) :
    iblk m c 4 t (ix2 (0 : Fin 1) j) = a4 m c (ix1 (⟨t.val * 512 + j.val, col_lt t j⟩ : Fin 6144)) := by
  blk_simp [iblk, idx t]
  rw [V_main_v1, row_at]
  blk_ext [idx t]
theorem blk_bias (t : Fin cfg0.N) (j : Fin 512) :
    iblk m c 5 t (ix2 (0 : Fin 1) j) = a5 m c (ix1 (⟨t.val * 512 + j.val, col_lt t j⟩ : Fin 6144)) := by
  blk_simp [iblk, idx t]
  rw [V_main_v2, row_at]
  blk_ext [idx t]
theorem blk_g (t : Fin cfg0.N) (k : Fin 6144) : iblk m c 6 t (ix2 (0 : Fin 1) k) = a6 m c (ix1 k) := by
  blk_simp [iblk, idx t]
  rw [V_main_v3, row_at]
  blk_ext [idx t]
theorem blk_b (t : Fin cfg0.N) (k : Fin 6144) : iblk m c 7 t (ix2 (0 : Fin 1) k) = a7 m c (ix1 k) := by
  blk_simp [iblk, idx t]
  rw [V_main_v4, row_at]
  blk_ext [idx t]

/-- The row the residual window holds at the end is the reference's residual. -/
theorem row_val (r : Fin 96) (k : Fin 6144) :
    rowC m c (ix2 r k) = val_main_v18 (F := Ideal) (a0 m c) (a1 m c) (a2 m c) (a3 m c) (a4 m c) (a5 m c) (ix3 r (0 : Fin 1) k) := by
  have hk := k.isLt
  have ht : k.val / 512 < cfg0.N := by show k.val / 512 < 12; omega
  have hj : k.val % 512 < 512 := by omega
  show blkC m c ⟨k.val / 512, ht⟩ (ix2 r (⟨k.val % 512, hj⟩ : Fin 512)) = _
  unfold blkC
  refine (resid_at _ _ _ _ _ _ (a0 m c) (a1 m c) (a2 m c) (a3 m c) (a4 m c) (a5 m c) (k.val / 512 * 512) (by omega) (blk_x m c ⟨k.val / 512, ht⟩) (blk_c m c ⟨k.val / 512, ht⟩) (blk_sc m c ⟨k.val / 512, ht⟩)
    (blk_w m c ⟨k.val / 512, ht⟩) (blk_s m c ⟨k.val / 512, ht⟩) (blk_bias m c ⟨k.val / 512, ht⟩) r ⟨k.val % 512, hj⟩).trans ?_
  refine congrArg (fun n : Fin 6144 => val_main_v18 (F := Ideal) (a0 m c) (a1 m c) (a2 m c) (a3 m c) (a4 m c) (a5 m c) (ix3 r (0 : Fin 1) n)) (Fin.ext ?_)
  show k.val / 512 * 512 + k.val % 512 = k.val
  omega

theorem ix_eq (j : S96x6144.Idx) : j = ix2 (j 0) (j 1) := by funext a; fin_cases a <;> rfl

/-- A reshape that drops the unit axis, at an index. -/
theorem dropUnit {e : EltTy} (x : Vec Ideal S96x1x6144 e) (i0 : Fin 96) (i1 : Fin 6144) :
    shapeCast S96x6144 x shapeCasts_S96x1x6144_S96x6144 (ix2 i0 i1) = x (ix3 i0 (0 : Fin 1) i1) := by
  have h0 : i0.val < 96 := i0.isLt
  have h1 : i1.val < 6144 := i1.isLt
  refine shapeCast_apply x shapeCasts_S96x1x6144_S96x6144 (ix2 i0 i1) (ix3 i0 (0 : Fin 1) i1) ?_
  rewrite [Shape.rowMajor_val_three, Shape.rowMajor_val_two]
  show (i0.val * 1 + 0) * 6144 + i1.val = i0.val * 6144 + i1.val
  omega

theorem final8 : (dats m 0 c).arrAt 8 (cfgs 0).N = val_main_v55 (F := Ideal) (a0 m c) (a1 m c) (a2 m c) (a3 m c) (a4 m c) (a5 m c) := by
  refine (dats m 0 c).arrAt_eq_of_after_last 8 tEnd (by decide +kernel) _ fun j => ?_
  blk_simp
  rw [after0_8]
  exact (congrArg (rowC m c) (ix_eq j)).trans ((row_val m c (j 0) (j 1)).trans
    ((dropUnit (val_main_v18 (F := Ideal) (a0 m c) (a1 m c) (a2 m c) (a3 m c) (a4 m c) (a5 m c)) (j 0) (j 1)).symm.trans
      (congrArg (val_main_v55 (F := Ideal) (a0 m c) (a1 m c) (a2 m c) (a3 m c) (a4 m c) (a5 m c)) (ix_eq j).symm)))

theorem final9 : (dats m 0 c).arrAt 9 (cfgs 0).N = val_main_v56 (F := Ideal) (a0 m c) (a1 m c) (a2 m c) (a3 m c) (a4 m c) (a5 m c) (a6 m c) (a7 m c) := by
  refine (dats m 0 c).arrAt_eq_of_after_last 9 tEnd (by decide +kernel) _ fun j => ?_
  blk_simp
  rw [after0_9]
  exact (congrArg (codesC m c) (ix_eq j)).trans ((codes_at _ _ _ _ _ _ _ _ _ _ _ (row_val m c) (blk_g m c tEnd) (blk_b m c tEnd) (j 0) (j 1)).trans
    ((dropUnit (val_main_v54 (F := Ideal) (a0 m c) (a1 m c) (a2 m c) (a3 m c) (a4 m c) (a5 m c) (a6 m c) (a7 m c)) (j 0) (j 1)).symm.trans
      (congrArg (val_main_v56 (F := Ideal) (a0 m c) (a1 m c) (a2 m c) (a3 m c) (a4 m c) (a5 m c) (a6 m c) (a7 m c)) (ix_eq j).symm)))

theorem final10 : (dats m 0 c).arrAt 10 (cfgs 0).N = val_main_v47 (F := Ideal) (a0 m c) (a1 m c) (a2 m c) (a3 m c) (a4 m c) (a5 m c) (a6 m c) (a7 m c) := by
  refine (dats m 0 c).arrAt_eq_of_after_last 10 tEnd (by decide +kernel) _ fun j => ?_
  blk_simp
  rw [after0_10]
  have e : (j : S96x1.Idx) = ix2 (j 0) (0 : Fin 1) := by
    funext a; fin_cases a; exacts [rfl, Subsingleton.elim (α := Fin 1) _ _]
  exact (congrArg (scaleC m c) e).trans ((scale_at _ _ _ _ _ _ _ _ _ _ _ (row_val m c) (blk_g m c tEnd) (blk_b m c tEnd) (j 0)).trans
    (congrArg (val_main_v47 (F := Ideal) (a0 m c) (a1 m c) (a2 m c) (a3 m c) (a4 m c) (a5 m c) (a6 m c) (a7 m c)) e.symm))

end Cert.OprojIdeal.Hand

open Idealize.ShloMosaic Idealize.ShloMosaic.TcCoe Idealize.ShloMosaic.StableHlo Idealize.SL.Sem
open Cert.OprojRefIdeal.Read

/-- The oproj kernel and its reference compute the same residual, codes and scales. -/
theorem Cert.algebraic_Oproj : Cert.algebraic_OprojIdeal_OprojRefIdeal := by
  intro m g m' g' hpre hagree
  refine ⟨fun (c : Dev Cert.OprojIdeal.nD) => val_main_v55 (F := Ideal) (Cert.OprojIdeal.Hand.a0 m c) (Cert.OprojIdeal.Hand.a1 m c) (Cert.OprojIdeal.Hand.a2 m c) (Cert.OprojIdeal.Hand.a3 m c) (Cert.OprojIdeal.Hand.a4 m c) (Cert.OprojIdeal.Hand.a5 m c),
    fun (c : Dev Cert.OprojIdeal.nD) => val_main_v56 (F := Ideal) (Cert.OprojIdeal.Hand.a0 m c) (Cert.OprojIdeal.Hand.a1 m c) (Cert.OprojIdeal.Hand.a2 m c) (Cert.OprojIdeal.Hand.a3 m c) (Cert.OprojIdeal.Hand.a4 m c) (Cert.OprojIdeal.Hand.a5 m c) (Cert.OprojIdeal.Hand.a6 m c) (Cert.OprojIdeal.Hand.a7 m c),
    fun (c : Dev Cert.OprojIdeal.nD) => val_main_v47 (F := Ideal) (Cert.OprojIdeal.Hand.a0 m c) (Cert.OprojIdeal.Hand.a1 m c) (Cert.OprojIdeal.Hand.a2 m c) (Cert.OprojIdeal.Hand.a3 m c) (Cert.OprojIdeal.Hand.a4 m c) (Cert.OprojIdeal.Hand.a5 m c) (Cert.OprojIdeal.Hand.a6 m c) (Cert.OprojIdeal.Hand.a7 m c), ?_, ?_⟩
  · run_from Cert.OprojIdeal.Hand.run_main m g
    all_goals clear hagree hpre
    · exact Cert.OprojIdeal.Hand.final8 m c
    · exact Cert.OprojIdeal.Hand.final9 m c
    · exact Cert.OprojIdeal.Hand.final10 m c
  · refine Idealize.ShloMosaic.θ_run_mono (Cert.OprojRefIdeal.Value.run m' g') ?_
    intro r hr c
    have h := hr c
    have e0 : m' ((c.tc : Thread Cert.OprojRefIdeal.nD Cert.OprojRefIdeal.τ).loc Cert.OprojRefIdeal.main_arg0) = Cert.OprojIdeal.Hand.a0 m c := (hagree c).1
    have e1 : m' ((c.tc : Thread Cert.OprojRefIdeal.nD Cert.OprojRefIdeal.τ).loc Cert.OprojRefIdeal.main_arg1) = Cert.OprojIdeal.Hand.a1 m c := (hagree c).2.1
    have e2 : m' ((c.tc : Thread Cert.OprojRefIdeal.nD Cert.OprojRefIdeal.τ).loc Cert.OprojRefIdeal.main_arg2) = Cert.OprojIdeal.Hand.a2 m c := (hagree c).2.2.1
    have e3 : m' ((c.tc : Thread Cert.OprojRefIdeal.nD Cert.OprojRefIdeal.τ).loc Cert.OprojRefIdeal.main_arg3) = Cert.OprojIdeal.Hand.a3 m c := (hagree c).2.2.2.1
    have e4 : m' ((c.tc : Thread Cert.OprojRefIdeal.nD Cert.OprojRefIdeal.τ).loc Cert.OprojRefIdeal.main_arg4) = Cert.OprojIdeal.Hand.a4 m c := (hagree c).2.2.2.2.1
    have e5 : m' ((c.tc : Thread Cert.OprojRefIdeal.nD Cert.OprojRefIdeal.τ).loc Cert.OprojRefIdeal.main_arg5) = Cert.OprojIdeal.Hand.a5 m c := (hagree c).2.2.2.2.2.1
    have e6 : m' ((c.tc : Thread Cert.OprojRefIdeal.nD Cert.OprojRefIdeal.τ).loc Cert.OprojRefIdeal.main_arg6) = Cert.OprojIdeal.Hand.a6 m c := (hagree c).2.2.2.2.2.2.1
    have e7 : m' ((c.tc : Thread Cert.OprojRefIdeal.nD Cert.OprojRefIdeal.τ).loc Cert.OprojRefIdeal.main_arg7) = Cert.OprojIdeal.Hand.a7 m c := (hagree c).2.2.2.2.2.2.2
    exact ⟨h.1.trans ((val_main_v55_eq (F := Ideal) _ _ _ _ _ _).trans (by rw [e0, e1, e2, e3, e4, e5])),
      h.2.1.trans ((val_main_v56_eq (F := Ideal) m' c).trans (by rw [e0, e1, e2, e3, e4, e5, e6, e7])),
      h.2.2.1.trans ((val_main_v47_eq (F := Ideal) m' c).trans (by rw [e0, e1, e2, e3, e4, e5, e6, e7])),
      h.2.2.2⟩

end
-- ==== Proof.FcData.lean ====
module

public import proofs.«01_k».proof.Proof.Gen.FcIdeal.Frame
public import proofs.«01_k».proof.Proof.Gen.FcIdeal.Skeleton
public import Idealize.ShloMosaic.Lib.Pipeline.ValueKit
public import Idealize.ShloMosaic.Lib.Pipeline.TableIdle
public import Idealize.ShloMosaic.Lib.WholeRead
public import Idealize.ShloMosaic.Lib.VecWindow

@[expose] public section

/-! The data of the fc call: the scratch row fills slice by slice, the last point quantises it. The body's triple in its
two cases, and the run of the whole call with its arrays named. -/

set_option maxRecDepth 16384

noncomputable section

namespace Cert.FcIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FcIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the branch is taken -/

abbrev cond0 (i : grid0.Coords) : Prop := k0_cond1 i = 1#1
theorem hcond0 : ∀ t : Fin cfg0.N, cond0 (grid0.coords t) ↔ t.val = 23 := (by decide +kernel : ∀ t : Fin grid0.N, _)
theorem hoff : ∀ t : Fin cfg0.N, k0_off1 (grid0.coords t) = ![0, 512 * t.val] := (by decide +kernel : ∀ t : Fin grid0.N, _)

theorem z2 : ∀ a : Fin 2, (![0, 0] : Fin 2 → ℕ) a = 0 := by decide

theorem readAt_zero {sp : Space} {S : Shape} {e : EltTy} {M : Memref sig .tc sp S e} (h : M.IsWhole) (X : S.Idx → Elt F e)
    {off : Fin S.rank → Nat} (inb : ∀ a, off a + S.size a ≤ S.size a) (hz : ∀ a, off a = 0) :
    M.view.readAt (Elt F) (Rect.unit off (no_index S.size) inb).toLoadRect (h.unread X) = X := by
  funext x
  refine (h.readAt_unread X _ x).trans (congrArg X ?_)
  exact congrFun (View.ld_unit_lit (Val := fun _ => S.Idx) (e := e) inb (fun y => y) hz) x

theorem readCov_zero {sp : Space} {S : Shape} {e : EltTy} (v : View sig .tc sp S e)
    {off : Fin S.rank → Nat} (inb : ∀ a, off a + S.size a ≤ S.size a) (w : S.Idx → Elt F e) (hz : ∀ a, off a = 0) :
    v.readCov [(⟨Rect.unit off (no_index S.size) inb, w⟩ : View.Piece (Elt F) S e)] (Rect.unit off (no_index S.size) inb).toLoadRect = w :=
  View.readCov_unit_zero v (funext hz) inb w

/-- Stores that tile a window leave their closed contents in it, whatever was there. -/
theorem closed {sp : Space} {S : Shape} {e : EltTy} (v : View sig .tc sp S e) (f : v.ty.Contents (Elt F))
    (L : List (View.Piece (Elt F) S e)) (size : Fin S.rank → ℕ) (h : View.Piece.tiledL L size = true) :
    v.read (Elt F) (v.writes (Elt F) f L) = View.canon L :=
  View.read_writes_eq_canon v f L (View.cover_of_tiledL L size h)

/-- One store over the whole window leaves its payload. -/
theorem closed_whole {sp : Space} {S : Shape} {e : EltTy} (v : View sig .tc sp S e) (f : v.ty.Contents (Elt F))
    {off : Fin S.rank → ℕ} (inb : ∀ a, off a + S.size a ≤ S.size a) (w : S.Idx → Elt F e) (hz : ∀ a, off a = 0) :
    v.read (Elt F) (v.writes (Elt F) f [(⟨Rect.unit off (no_index S.size) inb, w⟩ : View.Piece (Elt F) S e)]) = w :=
  (View.read_writes_eq_canon v f _ fun y => ⟨_, List.mem_singleton_self _, by
    obtain rfl : off = fun _ => 0 := funext hz
    show y ∈ (Rect.whole S).set; rw [Rect.set_whole]; exact Finset.mem_univ y⟩).trans (View.canon_unit_zero (funext hz) inb w)

/-! ## The body's triple, case by case -/

/-- The scratch row after a point: its slice of the row replaced. -/
abbrev put (i : grid0.Coords) (a : Vec F S96x12288 .f32) (x1 : Vec F S96x6144 .i8) (x2 : Vec F S96x1 .f32) (x3 : Vec F S6144x512 .i8)
    (x4 x5 : Vec F S1x512 .f32) : Vec F S96x12288 .f32 :=
  VecWindow.put a (k0_off1 i) S96x512.size (k0_pay1 x1 x3 x2 x4 x5)

section Triples
variable (c : Dev nD) (i : grid0.Coords)
  (arg1 : Memref sig .tc .vmem S96x6144 .i8) (harg1 : arg1.IsWhole)
  (arg2 : Memref sig .tc .vmem S96x1 .f32) (harg2 : arg2.IsWhole)
  (arg3 : Memref sig .tc .vmem S6144x512 .i8) (harg3 : arg3.IsWhole)
  (arg4 : Memref sig .tc .vmem S1x512 .f32) (harg4 : arg4.IsWhole)
  (arg5 : Memref sig .tc .vmem S1x512 .f32) (harg5 : arg5.IsWhole)
  (arg6 : Memref sig .tc .vmem S96x12288 .i8) (harg6 : arg6.IsWhole)
  (arg7 : Memref sig .tc .vmem S96x1 .f32) (harg7 : arg7.IsWhole)
  (arg8 : Memref sig .tc .vmem S96x12288 .f32) (harg8 : arg8.IsWhole)
  (x1 : Vec F S96x6144 .i8) (x2 : Vec F S96x1 .f32) (x3 : Vec F S6144x512 .i8) (x4 x5 : Vec F S1x512 .f32) (a : Vec F S96x12288 .f32)

set_option maxHeartbeats 2000000 in
/-- Every point but the last: one slice of the row. -/
theorem body_mid (hc0 : ¬cond0 i) :
    ∀ (E : Set ℕ) (K : PUnit → sProp 𝕄),
      iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg8 fullShare a
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg8 fullShare (put i a x1 x2 x3 x4 x5)) -∗ K ⟨⟩))
        ⊢ wp frame (wpE (defs₀ (F := F)) Variants.none c none) E (cc0_fc i arg1 harg1 arg2 harg2 arg3 harg3 arg4 harg4 arg5 harg5 arg6 harg6 arg7 harg7 arg8 harg8) K := by
  intro E K
  simp only [cc0_fc_eq_skeleton]; unfold cc0_fc_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f8, %hf8, H8⟩, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H8
  ipureintro
  refine (View.read_writes_cons_put _ _ _ _ _ rfl).trans ?_
  rw [View.writes_nil, harg8.read_unread]
  simp (disch := exact z2) only [readAt_zero]

set_option maxHeartbeats 2000000 in
/-- The last point: the last slice, then the row is quantised. -/
theorem body_last (hc0 : cond0 i) :
    ∀ (E : Set ℕ) (K : PUnit → sProp 𝕄),
      iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg8 fullShare a
          ∗ (∃ d, owns (c : Thread nD τ) arg6 fullShare d)
          ∗ (∃ d, owns (c : Thread nD τ) arg7 fullShare d)
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg8 fullShare (put i a x1 x2 x3 x4 x5)
            ∗ owns (c : Thread nD τ) arg6 fullShare (k0_pay3 (put i a x1 x2 x3 x4 x5))
            ∗ owns (c : Thread nD τ) arg7 fullShare (k0_pay2 (put i a x1 x2 x3 x4 x5))) -∗ K ⟨⟩))
        ⊢ wp frame (wpE (defs₀ (F := F)) Variants.none c none) E (cc0_fc i arg1 harg1 arg2 harg2 arg3 harg3 arg4 harg4 arg5 harg5 arg6 harg6 arg7 harg7 arg8 harg8) K := by
  intro E K
  simp only [cc0_fc_eq_skeleton]; unfold cc0_fc_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5; obtain rfl := harg8.eq_unread hf8
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; swap; · iexact H8
    ipureintro
    delta body_last.sl.H8_1
    refine (View.read_writes_cons_put _ _ _ _ _ rfl).trans ?_
    rw [View.writes_nil, harg8.read_unread]
    simp (disch := exact z2) only [readAt_zero]
  isplitl [H6]
  · iexists _; isplitr; swap; · iexact H6
    ipureintro
    refine (closed_whole _ _ _ _ z2).trans (congrArg k0_pay3 ?_)
    delta body_last.sl.v38
    delta body_last.sl.H8_1
    rw [View.readAt_full]
    refine (View.read_writes_cons_put _ _ _ _ _ rfl).trans ?_
    rw [View.writes_nil, harg8.read_unread]
    simp (disch := exact z2) only [readAt_zero]
  iexists _; isplitr; swap; · iexact H7
  ipureintro
  refine (closed_whole _ _ _ _ z2).trans (congrArg k0_pay2 ?_)
  delta body_last.sl.v38
  delta body_last.sl.H8_1
  rw [View.readAt_full]
  refine (View.read_writes_cons_put _ _ _ _ _ rfl).trans ?_
  rw [View.writes_nil, harg8.read_unread]
  simp (disch := exact z2) only [readAt_zero]

end Triples

/-! ## What every point leaves -/

/-- The last point. -/
def tEnd : Fin cfg0.N := ⟨23, by decide⟩
/-- The slice of the row that point `t` computes. -/
def blkC (c : Dev nD) (t : Fin cfg0.N) : Vec F S96x512 .f32 :=
  k0_pay1 (iblk m c 0 t) (iblk m c 2 t) (iblk m c 1 t) (iblk m c 3 t) (iblk m c 4 t)
/-- The whole row, each element from the point of its slice. -/
def rowC (c : Dev nD) : Vec F S96x12288 .f32 := fun j =>
  blkC m c ⟨(j 1).val / 512, by have h : (j 1).val < 12288 := (j 1).isLt; show _ < 24; omega⟩
    (ix2 (⟨(j 0).val, (j 0).isLt⟩ : Fin 96) (⟨(j 1).val % 512, Nat.mod_lt _ (by decide)⟩ : Fin 512))
/-- The first `n` slices of `a` are the row's. -/
def Filled (c : Dev nD) (n : ℕ) (a : Vec F S96x12288 .f32) : Prop := ∀ j : S96x12288.Idx, (j 1).val < 512 * n → a j = rowC m c j

theorem filled_put (c : Dev nD) (t : Fin cfg0.N) (a : Vec F S96x12288 .f32) (h : Filled m c t.val a) :
    Filled m c (t.val + 1) (put (grid0.coords t) a (iblk m c 0 t) (iblk m c 1 t) (iblk m c 2 t) (iblk m c 3 t) (iblk m c 4 t)) := by
  intro j hj
  have h0 : (j 0).val < 96 := (j 0).isLt
  unfold put VecWindow.put
  rw [hoff t]
  by_cases hlt : (j 1).val < 512 * t.val
  · rw [dif_neg (fun hall => absurd (hall 1).1 (by show ¬ 512 * t.val ≤ (j 1).val; omega))]
    exact h j hlt
  · have hin : ∀ b : Fin 2, (![0, 512 * t.val] : Fin 2 → ℕ) b ≤ (j b).val ∧ (j b).val < (![0, 512 * t.val] : Fin 2 → ℕ) b + S96x512.size b :=
      Fin.forall_fin_two.mpr ⟨⟨Nat.zero_le _, by show (j 0).val < 0 + 96; omega⟩,
        ⟨by show 512 * t.val ≤ (j 1).val; omega, by show (j 1).val < 512 * t.val + 512; omega⟩⟩
    rw [dif_pos hin]
    unfold rowC
    have et : (⟨(j 1).val / 512, by have h : (j 1).val < 12288 := (j 1).isLt; show _ < 24; omega⟩ : Fin cfg0.N) = t :=
      Fin.ext (by show (j 1).val / 512 = t.val; omega)
    rw [et]
    refine congrArg (blkC m c t) ?_
    funext b
    refine Fin.ext ?_
    fin_cases b
    · show (j 0).val - 0 = (j 0).val
      omega
    · show (j 1).val - 512 * t.val = (j 1).val % 512
      omega

theorem filled_all (c : Dev nD) (a : Vec F S96x12288 .f32) (h : Filled m c 24 a) : a = rowC m c :=
  funext fun j => h j (by have h : (j 1).val < 12288 := (j 1).isLt; omega)

/-- The codes the last point writes. -/
def codesC (c : Dev nD) : Vec F S96x12288 .i8 := k0_pay3 (rowC m c)
/-- The scales the last point writes. -/
def scaleC (c : Dev nD) : Vec F S96x1 .f32 := k0_pay2 (rowC m c)

/-- Before point `n` the scratch row's first `n` slices are filled. -/
def PhiN (c : Dev nD) (n : ℕ) : sProp 𝕄 :=
  iprop((∃ a : Vec F S96x12288 .f32, ⌜Filled m c n a⌝ ∗ owns (c : Thread nD τ) (Memref.whole cc0_scratch0) fullShare a) ∗ ∃ r, prngReg c r)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesC m c
    | ⟨6, _⟩ => scaleC m c
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesC m c := by dsimp only [dats]
theorem after0_6 (c : Dev nD) (t : Fin cfg0.N) : (dats m 0 c).after 6 t = scaleC m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem idle_codes : ∀ t : Fin cfg0.N, cfg0.idle 5 (cfg0.grid.coords t) = !decide (t.val = 23) := by decide +kernel
theorem idle_scale : ∀ t : Fin cfg0.N, cfg0.idle 6 (cfg0.grid.coords t) = !decide (t.val = 23) := by decide +kernel

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-! ## The body obligation -/

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2000000 in
/-- Every point but the last. -/
theorem sound_mid (c : Dev nD) (t : Fin cfg0.N) (ht : t.val < 23) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = PhiN m c t.val from rfl, show (dats m 0 c).Φ t.succ = PhiN m c (t.val + 1) from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    Dat.leavesExact_idle (dats m 0 c) 5 t (by rw [idle_codes]; simp; omega) (Bool.eq_false_iff.mpr fun h => absurd ((flush0_5 t).mp h) (by omega)), Dat.leavesExact_idle (dats m 0 c) 6 t (by rw [idle_scale]; simp; omega) (Bool.eq_false_iff.mpr fun h => absurd ((flush0_6 t).mp h) (by omega)),
    after0_0, after0_1, after0_2, after0_3, after0_4]
  unfold PhiN
  iintro ⟨⟨⟨%a, %ha, HS⟩, HR⟩, Ho, ⟨%d0, H0⟩, ⟨%d1, H1⟩, ⟨%d2, H2⟩, ⟨%d3, H3⟩, ⟨%d4, H4⟩, ⟨%d5, H5⟩, ⟨%d6, H6⟩⟩
  have hp := filled_put m c t a ha
  iapply (body_mid c (grid0.coords t) _ _ _ _ _ _ _ _ _ _ _ _ _ _ _ _ (iblk m c 0 t) (iblk m c 1 t) (iblk m c 2 t) (iblk m c 3 t) (iblk m c 4 t) a (fun h => absurd ((hcond0 t).mp h) (by omega)) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR]
  · isplitl [HS]
    · iexists _; isplitr; swap; · iexact HS
      ipureintro; exact hp
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 2000000 in
/-- The last point. -/
theorem sound_last (c : Dev nD) (t : Fin cfg0.N) (ht : t.val = 23) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = PhiN m c t.val from rfl, show (dats m 0 c).Φ t.succ = PhiN m c (t.val + 1) from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    leaves_live m c 5 t (by rw [idle_codes]; simp [ht]), leaves_live m c 6 t (by rw [idle_scale]; simp [ht]),
    after0_0, after0_1, after0_2, after0_3, after0_4, after0_5, after0_6]
  unfold PhiN
  iintro ⟨⟨⟨%a, %ha, HS⟩, HR⟩, Ho, ⟨%d0, H0⟩, ⟨%d1, H1⟩, ⟨%d2, H2⟩, ⟨%d3, H3⟩, ⟨%d4, H4⟩, ⟨%d5, H5⟩, ⟨%d6, H6⟩⟩
  have hp := filled_put m c t a ha
  have hrow := filled_all m c _ (by rw [ht] at hp; exact hp)
  iapply (body_last c (grid0.coords t) _ _ _ _ _ _ _ _ _ _ _ _ _ _ _ _ (iblk m c 0 t) (iblk m c 1 t) (iblk m c 2 t) (iblk m c 3 t) (iblk m c 4 t) a ((hcond0 t).mpr ht) Set.univ _)
  isplitl [H0]; · iexact H0
  isplitl [H1]; · iexact H1
  isplitl [H2]; · iexact H2
  isplitl [H3]; · iexact H3
  isplitl [H4]; · iexact H4
  isplitl [HS]; · iexact HS
  isplitl [H5]; · iexists _; iexact H5
  isplitl [H6]; · iexists _; iexact H6
  iintro ⟨H0, H1, H2, H3, H4, HS, H5, H6⟩
  isplitl [HS HR]
  · isplitl [HS]
    · iexists _; isplitr; swap; · iexact HS
      ipureintro; exact hp
    iexact HR
  isplitl [Ho]; · iexact Ho
  isplitl [H0]; · iexact H0
  isplitl [H1]; · iexact H1
  isplitl [H2]; · iexact H2
  isplitl [H3]; · iexact H3
  isplitl [H4]; · iexact H4
  unfold codesC scaleC
  rw [← hrow]
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := F)) Variants.none c none) Set.univ (bodyAt0 t) (fun _ => bodyPost m c t) := by
  have hN : cfg0.N = 24 := N_0
  have := t.isLt
  rcases Nat.lt_or_ge t.val 23 with h | h
  · exact sound_mid m c t h
  · exact sound_last m c t (by omega)

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enter (c : Dev nD) : Pipeline.ΦA spec0 c ⊢ (dats m 0 c).Φ 0 := by
  rw [show (dats m 0 c).Φ 0 = PhiN m c 0 from rfl]
  unfold Pipeline.ΦA PhiN
  rw [scopedRest0_eq]
  iintro ⟨⟨%f, HS⟩, HR⟩
  isplitl [HS]
  · iexists f; isplitr
    · ipureintro; intro j hj; exact absurd hj (by omega)
    rw [owns_whole]; iexact HS
  iexact HR

theorem leave (c : Dev nD) : (dats m 0 c).Φ (Fin.last cfg0.N) ⊢ Pipeline.ΦA spec0 c := by
  rw [show (dats m 0 c).Φ (Fin.last cfg0.N) = PhiN m c cfg0.N from rfl]
  unfold Pipeline.ΦA PhiN
  rw [scopedRest0_eq]
  iintro ⟨⟨%a, -, HS⟩, HR⟩
  isplitl [HS]
  · iexists a; rw [owns_whole]; exact BI.BIBase.Entails.rfl
  iexact HR

set_option backward.isDefEq.respectTransparency.types false in
set_option maxHeartbeats 800000 in
/-- The run: every array of the pipeline ends at what the proof data say, every other buffer as the lines after the
    call leave it, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FcIdeal.Hand

end
-- ==== Proof.FcGelu.lean ====
module

public import proofs.«01_k».proof.Proof.FcData
public import proofs.«01_k».proof.Proof.IdealInt
public import proofs.«01_k».proof.Proof.Gen.FcRefIdeal.Run
public import proofs.«01_k».proof.Proof.Gen.FcRefIdeal.Read
public import Idealize.ShloMosaic.Lib.Pointwise

@[expose] public section

set_option backward.proofsInPublic true
set_option maxRecDepth 16384

noncomputable section

/-! ## The fc call: a slice of the linear layer's gelu -/

namespace Cert.FcIdeal.Hand

open Cert.FcIdeal Cert.FcIdeal.Gen
open Cert.FcRefIdeal.Read Cert.Codes
open Idealize.ShloMosaic Idealize.ShloMosaic.TcCoe Idealize.ShloMosaic.StableHlo Idealize.SL.Sem

theorem slice_lt {o j w n : ℕ} (ho : o + w ≤ n) (hj : j < w) : o + j < n := by omega

section Rows
variable (x0 : Vec Ideal S96x6144 .i8) (x1 : Vec Ideal S96x1 .f32) (x2 : Vec Ideal S6144x512 .i8) (x3 x4 : Vec Ideal S1x512 .f32)
  (r0 : Vec Ideal S96x6144 .i8) (r1 : Vec Ideal S96x1 .f32) (r2 : Vec Ideal ⟨2, ![6144, 12288]⟩ .i8) (r3 r4 : Vec Ideal ⟨1, ![12288]⟩ .f32)
  (o : ℕ) (ho : o + 512 ≤ 12288)
  (h0 : ∀ (r : Fin 96) (k : Fin 6144), x0 (ix2 r k) = r0 (ix2 r k))
  (h1 : ∀ r : Fin 96, x1 (ix2 r (0 : Fin 1)) = r1 (ix2 r (0 : Fin 1)))
  (h2 : ∀ (k : Fin 6144) (j : Fin 512), x2 (ix2 k j) = r2 (ix2 k (⟨o + j.val, slice_lt ho j.isLt⟩ : Fin 12288)))
  (h3 : ∀ j : Fin 512, x3 (ix2 (0 : Fin 1) j) = r3 (ix1 (⟨o + j.val, slice_lt ho j.isLt⟩ : Fin 12288)))
  (h4 : ∀ j : Fin 512, x4 (ix2 (0 : Fin 1) j) = r4 (ix1 (⟨o + j.val, slice_lt ho j.isLt⟩ : Fin 12288)))

include h0 h1 h2 h3 h4 in
/-- A slice of the kernel's row is the reference's gelu at its columns. -/
theorem gelu_at (r : Fin 96) (j : Fin 512) :
    k0_pay1 x0 x2 x1 x3 x4 (ix2 r j) = val_main_v29 (F := Ideal) r0 r1 r2 r3 r4 (ix3 r (0 : Fin 1) (⟨o + j.val, slice_lt ho j.isLt⟩ : Fin 12288)) := by
  pointwise [k0_pay1, h0, h1, h2, h3, h4, val_main_v29, val_main_v28, val_main_v27, val_main_cst_2, val_main_v26, val_main_v25, val_main_v24, val_main_cst_1, val_main_v23, val_main_v22, val_main_v21, val_main_v20, val_main_v19, val_main_cst_0, val_main_v18, val_main_v17, val_main_cst, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [sitofp_signExtend .f32 .bf16]

end Rows

end Cert.FcIdeal.Hand

end
-- ==== Proof.FcScale.lean ====
module

public import proofs.«01_k».proof.Proof.FcData
public import proofs.«01_k».proof.Proof.IdealInt
public import proofs.«01_k».proof.Proof.Gen.FcRefIdeal.Run
public import proofs.«01_k».proof.Proof.Gen.FcRefIdeal.Read
public import Idealize.ShloMosaic.Lib.Pointwise

@[expose] public section

set_option backward.proofsInPublic true
set_option maxRecDepth 16384

noncomputable section

/-! ## The fc call: the scale of a row -/

namespace Cert.FcIdeal.Hand

open Cert.FcIdeal Cert.FcIdeal.Gen
open Cert.FcRefIdeal.Read Cert.Codes
open Idealize.ShloMosaic Idealize.ShloMosaic.TcCoe Idealize.ShloMosaic.StableHlo Idealize.SL.Sem

section Quant
variable (g : Vec Ideal S96x12288 .f32)
  (r0 : Vec Ideal S96x6144 .i8) (r1 : Vec Ideal S96x1 .f32) (r2 : Vec Ideal ⟨2, ![6144, 12288]⟩ .i8) (r3 r4 : Vec Ideal ⟨1, ![12288]⟩ .f32)
  (hg : ∀ (r : Fin 96) (k : Fin 12288), g (ix2 r k) = val_main_v29 (F := Ideal) r0 r1 r2 r3 r4 (ix3 r (0 : Fin 1) k))

include hg in
theorem scale_at (r : Fin 96) :
    k0_pay2 g (ix2 r (0 : Fin 1)) = val_main_v36 (F := Ideal) r0 r1 r2 r3 r4 (ix2 r (0 : Fin 1)) := by
  pointwise [k0_pay2, id, hg, val_main_v36, val_main_call0_v1, val_main_call0_v0, val_main_cst_6, val_main_v35, val_main_v34, val_main_cst_5, val_main_v33, val_main_v32, val_main_cst_4, val_main_v31, val_main_cst_3, val_main_v30]

end Quant

end Cert.FcIdeal.Hand

end
-- ==== Proof.FcClip.lean ====
module

public import proofs.«01_k».proof.Proof.FcData
public import proofs.«01_k».proof.Proof.IdealInt
public import proofs.«01_k».proof.Proof.Gen.FcRefIdeal.Run
public import proofs.«01_k».proof.Proof.Gen.FcRefIdeal.Read
public import Idealize.ShloMosaic.Lib.Pointwise

@[expose] public section

set_option backward.proofsInPublic true
set_option maxRecDepth 16384

noncomputable section

/-! ## The fc call: the clipped, rounded quotients are codes -/

namespace Cert.FcIdeal.Hand

open Cert.FcIdeal Cert.FcIdeal.Gen
open Cert.FcRefIdeal.Read Cert.Codes
open Idealize.ShloMosaic Idealize.ShloMosaic.TcCoe Idealize.ShloMosaic.StableHlo Idealize.SL.Sem

section Quant
variable (r0 : Vec Ideal S96x6144 .i8) (r1 : Vec Ideal S96x1 .f32) (r2 : Vec Ideal ⟨2, ![6144, 12288]⟩ .i8) (r3 r4 : Vec Ideal ⟨1, ![12288]⟩ .f32)

theorem clip_isCode (r : Fin 96) (k : Fin 12288) : IsCode (val_main_v41 (F := Ideal) r0 r1 r2 r3 r4 (ix3 r (0 : Fin 1) k)) := by
  have h := isCode_clip (val_main_v39 (F := Ideal) r0 r1 r2 r3 r4 (ix3 r (0 : Fin 1) k))
  pointwise [val_main_v41, val_main_call2_v4, val_main_call2_v3, val_main_call2_v2, val_main_call2_v1, val_main_call2_v0, val_main_c, val_main_c_7, val_main_v40]
  exact h

end Quant

end Cert.FcIdeal.Hand

end
-- ==== Proof.FcCodes.lean ====
module

public import proofs.«01_k».proof.Proof.FcScale
public import proofs.«01_k».proof.Proof.FcClip
public import proofs.«01_k».proof.Proof.IdealInt
public import proofs.«01_k».proof.Proof.Gen.FcRefIdeal.Run
public import proofs.«01_k».proof.Proof.Gen.FcRefIdeal.Read
public import Idealize.ShloMosaic.Lib.Pointwise

@[expose] public section

set_option backward.proofsInPublic true
set_option maxRecDepth 16384

noncomputable section

/-! ## The fc call: the codes of a row -/

namespace Cert.FcIdeal.Hand

open Cert.FcIdeal Cert.FcIdeal.Gen
open Cert.FcRefIdeal.Read Cert.Codes
open Idealize.ShloMosaic Idealize.ShloMosaic.TcCoe Idealize.ShloMosaic.StableHlo Idealize.SL.Sem

section Quant
variable (g : Vec Ideal S96x12288 .f32)
  (r0 : Vec Ideal S96x6144 .i8) (r1 : Vec Ideal S96x1 .f32) (r2 : Vec Ideal ⟨2, ![6144, 12288]⟩ .i8) (r3 r4 : Vec Ideal ⟨1, ![12288]⟩ .f32)
  (hg : ∀ (r : Fin 96) (k : Fin 12288), g (ix2 r k) = val_main_v29 (F := Ideal) r0 r1 r2 r3 r4 (ix3 r (0 : Fin 1) k))

/-- The clipped quotients the kernel converts to codes. -/
def clipOf : FVec Ideal S96x12288 .f32 :=
  minimumf (broadcast S96x12288 (Scalar.sitofp (F := Ideal) .f32 127#32))
    (maximumf (broadcast S96x12288 (Scalar.sitofp (F := Ideal) .f32 4294967169#32))
      (roundeven (divf g (broadcastTo S96x12288 (k0_pay2 g) broadcasts_S96x1_S96x12288))))

theorem pay3_eq : k0_pay3 g = fptosi 8 (clipOf g) := by unfold k0_pay3 clipOf; rfl

include hg in
theorem clip_at (r : Fin 96) (k : Fin 12288) :
    clipOf g (ix2 r k) = val_main_v41 (F := Ideal) r0 r1 r2 r3 r4 (ix3 r (0 : Fin 1) k) := by
  pointwise [clipOf, hg, scale_at g r0 r1 r2 r3 r4 hg, val_main_v41, val_main_call2_v4, val_main_call2_v3, val_main_call2_v2, val_main_call2_v1, val_main_call2_v0, val_main_c, val_main_c_7, val_main_v40, val_main_v39, val_main_v38, val_main_v37]
  rfl

include hg in
theorem codes_at (r : Fin 96) (k : Fin 12288) :
    k0_pay3 g (ix2 r k) = val_main_v43 (F := Ideal) r0 r1 r2 r3 r4 (ix3 r (0 : Fin 1) k) := by
  pointwise [pay3_eq, val_main_v43, val_main_v42]
  refine (congrArg (Ideal.fptosi 8) (clip_at g r0 r1 r2 r3 r4 hg r k)).trans ?_
  exact code_narrow (clip_isCode r0 r1 r2 r3 r4 r k)

end Quant

end Cert.FcIdeal.Hand

end
-- ==== Proof.FcValue.lean ====
module

public import proofs.«01_k».proof.Defs
public import proofs.«01_k».proof.Proof.FcGelu
public import proofs.«01_k».proof.Proof.FcCodes
public import Idealize.ShloMosaic.Lib.Pipeline.ValueKit
public import Idealize.ShloMosaic.Lib.Pointwise
public import Idealize.ShloMosaic.Lib.StableHlo.ReadAt
public import Idealize.ShloMosaic.Lib.Claim

@[expose] public section

set_option backward.proofsInPublic true
set_option maxRecDepth 16384

noncomputable section

/-! ## The fc call's results: the codes and scales of the gelu of a linear layer -/

namespace Cert.FcIdeal.Hand

open Cert.FcIdeal Cert.FcIdeal.Gen
open Cert.FcRefIdeal.Read Cert.Codes
open Idealize.ShloMosaic Idealize.ShloMosaic.TcCoe Idealize.ShloMosaic.StableHlo Idealize.SL.Sem

variable (m : (ℓ : Loc nD τ sig) → Buf (Elt Ideal) ℓ) (c : Dev nD)

/-! The arguments. -/
abbrev a0 : Vec Ideal S96x6144 .i8 := m ((c.tc : Thread nD τ).loc main_arg0)
abbrev a1 : Vec Ideal S96x1 .f32 := m ((c.tc : Thread nD τ).loc main_arg1)
abbrev a2 : Vec Ideal ⟨2, ![6144, 12288]⟩ .i8 := m ((c.tc : Thread nD τ).loc main_arg2)
abbrev a3 : Vec Ideal ⟨1, ![12288]⟩ .f32 := m ((c.tc : Thread nD τ).loc main_arg3)
abbrev a4 : Vec Ideal ⟨1, ![12288]⟩ .f32 := m ((c.tc : Thread nD τ).loc main_arg4)

theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, 0] ∧ win0_6.index t = ![0, 0] :=
  (by decide +kernel : ∀ t : Fin grid0.N, _)

theorem V_main_v0 : V m c main_v0 = shapeCast _ (m ((c.tc : Thread nD τ).loc main_arg3)) shapeCasts_S12288_S1x12288 := by
  show StableHlo.after hostOps0 (fun b => m (c, b)) _ = _
  after_results
  all_goals rfl
theorem V_main_v1 : V m c main_v1 = shapeCast _ (m ((c.tc : Thread nD τ).loc main_arg4)) shapeCasts_S12288_S1x12288 := by
  show StableHlo.after hostOps0 (fun b => m (c, b)) _ = _
  after_results
  all_goals rfl
theorem row_at (x : Vec Ideal ⟨1, ![12288]⟩ .f32) (i : S1x12288.Idx) :
    shapeCast S1x12288 x shapeCasts_S12288_S1x12288 i = x (ix1 (i 1)) := by
  idx_vars i
  pointwise

theorem col_lt (t : Fin cfg0.N) (j : Fin 512) : t.val * 512 + j.val < 12288 := by
  have : t.val < 24 := lt_of_lt_of_eq t.isLt (by decide)
  omega

theorem blk_c (t : Fin cfg0.N) (r : Fin 96) (k : Fin 6144) : iblk m c 0 t (ix2 r k) = a0 m c (ix2 r k) := by
  blk_ext [iblk, V_main_arg0, idx t]
theorem blk_sc (t : Fin cfg0.N) (r : Fin 96) : iblk m c 1 t (ix2 r (0 : Fin 1)) = a1 m c (ix2 r (0 : Fin 1)) := by
  blk_ext [iblk, V_main_arg1, idx t]
theorem blk_w (t : Fin cfg0.N) (k : Fin 6144) (j : Fin 512) :
    iblk m c 2 t (ix2 k j) = a2 m c (ix2 k (⟨t.val * 512 + j.val, col_lt t j⟩ : Fin 12288)) := by
  blk_ext [iblk, V_main_arg2, idx t]
theorem blk_s (t : Fin cfg0.N) (j : Fin 512) :
    iblk m c 3 t (ix2 (0 : Fin 1) j) = a3 m c (ix1 (⟨t.val * 512 + j.val, col_lt t j⟩ : Fin 12288)) := by
  blk_simp [iblk, idx t]
  rw [V_main_v0, row_at]
  blk_ext [idx t]
theorem blk_bias (t : Fin cfg0.N) (j : Fin 512) :
    iblk m c 4 t (ix2 (0 : Fin 1) j) = a4 m c (ix1 (⟨t.val * 512 + j.val, col_lt t j⟩ : Fin 12288)) := by
  blk_simp [iblk, idx t]
  rw [V_main_v1, row_at]
  blk_ext [idx t]

/-- The row the scratch buffer holds at the end is the reference's gelu. -/
theorem row_val (r : Fin 96) (k : Fin 12288) :
    rowC m c (ix2 r k) = val_main_v29 (F := Ideal) (a0 m c) (a1 m c) (a2 m c) (a3 m c) (a4 m c) (ix3 r (0 : Fin 1) k) := by
  have hk := k.isLt
  have ht : k.val / 512 < cfg0.N := by show k.val / 512 < 24; omega
  have hj : k.val % 512 < 512 := by omega
  show k0_pay1 (iblk m c 0 ⟨k.val / 512, ht⟩) (iblk m c 2 ⟨k.val / 512, ht⟩) (iblk m c 1 ⟨k.val / 512, ht⟩) (iblk m c 3 ⟨k.val / 512, ht⟩) (iblk m c 4 ⟨k.val / 512, ht⟩)
    (ix2 r (⟨k.val % 512, hj⟩ : Fin 512)) = _
  refine (gelu_at _ _ _ _ _ (a0 m c) (a1 m c) (a2 m c) (a3 m c) (a4 m c) (k.val / 512 * 512) (by omega) (blk_c m c ⟨k.val / 512, ht⟩) (blk_sc m c ⟨k.val / 512, ht⟩)
    (blk_w m c ⟨k.val / 512, ht⟩) (blk_s m c ⟨k.val / 512, ht⟩) (blk_bias m c ⟨k.val / 512, ht⟩) r ⟨k.val % 512, hj⟩).trans ?_
  refine congrArg (fun n : Fin 12288 => val_main_v29 (F := Ideal) (a0 m c) (a1 m c) (a2 m c) (a3 m c) (a4 m c) (ix3 r (0 : Fin 1) n)) (Fin.ext ?_)
  show k.val / 512 * 512 + k.val % 512 = k.val
  omega

/-- The reference's codes, without the unit axis. -/
def CODES : Vec Ideal S96x12288 .i8 := fun i => val_main_v43 (F := Ideal) (a0 m c) (a1 m c) (a2 m c) (a3 m c) (a4 m c) (ix3 (i 0) (0 : Fin 1) (i 1))

theorem final5 : (dats m 0 c).arrAt 5 (cfgs 0).N = CODES m c := by
  refine (dats m 0 c).arrAt_eq_of_after_last 5 tEnd (by decide +kernel) _ fun j => ?_
  blk_simp
  rw [after0_5]
  have e : (j : S96x12288.Idx) = ix2 (j 0) (j 1) := by funext a; fin_cases a <;> rfl
  exact (congrArg (codesC m c) e).trans (codes_at _ _ _ _ _ _ (row_val m c) (j 0) (j 1))

theorem final6 : (dats m 0 c).arrAt 6 (cfgs 0).N = val_main_v36 (F := Ideal) (a0 m c) (a1 m c) (a2 m c) (a3 m c) (a4 m c) := by
  refine (dats m 0 c).arrAt_eq_of_after_last 6 tEnd (by decide +kernel) _ fun j => ?_
  blk_simp
  rw [after0_6]
  have e : (j : S96x1.Idx) = ix2 (j 0) (0 : Fin 1) := by
    funext a; fin_cases a; exacts [rfl, Subsingleton.elim (α := Fin 1) _ _]
  exact (congrArg (scaleC m c) e).trans ((scale_at _ _ _ _ _ _ (row_val m c) (j 0)).trans
    (congrArg (val_main_v36 (F := Ideal) (a0 m c) (a1 m c) (a2 m c) (a3 m c) (a4 m c)) e.symm))

/-- The trailing reshape of the codes. -/
theorem tail_main_v3 :
    Pipeline.afterTail₀ cfgs (dats m) 0 (V0 m) [hostOps1] c main_v3 = val_main_v43 (F := Ideal) (a0 m c) (a1 m c) (a2 m c) (a3 m c) (a4 m c) := by
  have e : Pipeline.afterTail₀ cfgs (dats m) 0 (V0 m) [hostOps1] c main_v3
      = shapeCast S96x1x12288 ((dats m 0 c).arrAt 5 (cfgs 0).N) shapeCasts_S96x12288_S96x1x12288 := by
    unfold Pipeline.afterTail₀
    show StableHlo.after hostOps1 _ _ = _
    after_results
    exact congrArg (fun z => shapeCast S96x1x12288 z shapeCasts_S96x12288_S96x1x12288)
      (Pipeline.withArrays_arr (cfgs 0).spec (by decide) c (V0 m c) (fun w => (dats m 0 c).arrAt w (cfgs 0).N) 5)
  rw [e, final5]
  funext i
  idx_vars i
  have h0 : i0.val < 96 := i0.isLt
  have h1 : i1.val < 1 := i1.isLt
  have h2 : i2.val < 12288 := i2.isLt
  refine (shapeCast_apply (CODES m c) shapeCasts_S96x12288_S96x1x12288 (ix3 i0 i1 i2) (ix2 i0 i2) ?_).trans ?_
  · rewrite [Shape.rowMajor_val_three, Shape.rowMajor_val_two]
    show i0.val * 12288 + i2.val = (i0.val * 1 + i1.val) * 12288 + i2.val
    omega
  · show val_main_v43 (F := Ideal) _ _ _ _ _ (ix3 i0 (0 : Fin 1) i2) = _
    rw [Subsingleton.elim i1 (0 : Fin 1)]

end Cert.FcIdeal.Hand

open Idealize.ShloMosaic Idealize.ShloMosaic.TcCoe Idealize.ShloMosaic.StableHlo Idealize.SL.Sem
open Cert.FcRefIdeal.Read

/-- The fc kernel and its reference compute the same codes and scales. -/
theorem Cert.algebraic_Fc : Cert.algebraic_FcIdeal_FcRefIdeal := by
  intro m g m' g' hpre hagree
  refine ⟨fun (c : Dev Cert.FcIdeal.nD) => val_main_v43 (F := Ideal) (Cert.FcIdeal.Hand.a0 m c) (Cert.FcIdeal.Hand.a1 m c) (Cert.FcIdeal.Hand.a2 m c) (Cert.FcIdeal.Hand.a3 m c) (Cert.FcIdeal.Hand.a4 m c),
    fun (c : Dev Cert.FcIdeal.nD) => val_main_v36 (F := Ideal) (Cert.FcIdeal.Hand.a0 m c) (Cert.FcIdeal.Hand.a1 m c) (Cert.FcIdeal.Hand.a2 m c) (Cert.FcIdeal.Hand.a3 m c) (Cert.FcIdeal.Hand.a4 m c), ?_, ?_⟩
  · run_from Cert.FcIdeal.Hand.run_main m g
    all_goals clear hagree hpre
    · exact Cert.FcIdeal.Hand.tail_main_v3 m c
    · exact Cert.FcIdeal.Hand.final6 m c
    · exact Cert.FcIdeal.Gen.W_main_arg3 m _ c
    · exact Cert.FcIdeal.Gen.W_main_arg4 m _ c
  · refine Idealize.ShloMosaic.θ_run_mono (Cert.FcRefIdeal.Value.run m' g') ?_
    intro r hr c
    have h := hr c
    have e0 : m' ((c.tc : Thread Cert.FcRefIdeal.nD Cert.FcRefIdeal.τ).loc Cert.FcRefIdeal.main_arg0) = Cert.FcIdeal.Hand.a0 m c := (hagree c).1
    have e1 : m' ((c.tc : Thread Cert.FcRefIdeal.nD Cert.FcRefIdeal.τ).loc Cert.FcRefIdeal.main_arg1) = Cert.FcIdeal.Hand.a1 m c := (hagree c).2.1
    have e2 : m' ((c.tc : Thread Cert.FcRefIdeal.nD Cert.FcRefIdeal.τ).loc Cert.FcRefIdeal.main_arg2) = Cert.FcIdeal.Hand.a2 m c := (hagree c).2.2.1
    have e3 : m' ((c.tc : Thread Cert.FcRefIdeal.nD Cert.FcRefIdeal.τ).loc Cert.FcRefIdeal.main_arg3) = Cert.FcIdeal.Hand.a3 m c := (hagree c).2.2.2.1
    have e4 : m' ((c.tc : Thread Cert.FcRefIdeal.nD Cert.FcRefIdeal.τ).loc Cert.FcRefIdeal.main_arg4) = Cert.FcIdeal.Hand.a4 m c := (hagree c).2.2.2.2
    exact ⟨h.1.trans ((val_main_v43_eq (F := Ideal) m' c).trans (by rw [e0, e1, e2, e3, e4])),
      h.2.1.trans ((val_main_v36_eq (F := Ideal) m' c).trans (by rw [e0, e1, e2, e3, e4])),
      h.2.2⟩

end
-- ==== Proof.ProjValue.lean ====
module
public import proofs.«01_k».proof.Defs
public import proofs.«01_k».proof.Proof.Gen.ProjIdeal.Frame
public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.ProjIdeal.Hand

open Cert.ProjIdeal Cert.ProjIdeal.Gen
open Idealize.ShloMosaic Idealize.ShloMosaic.TcCoe Idealize.ShloMosaic.StableHlo Idealize.SL.Sem

variable (m : (ℓ : Loc nD τ sig) → Buf (Elt Ideal) ℓ)

/-- The projection's result: residual plus the scaled dot product of codes plus the bias. -/
def REF (x0 : Vec Ideal S96x12288 .i8) (x1 : Vec Ideal S96x1 .f32) (x2 : Vec Ideal S12288x6144 .i8)
    (x3 x4 : Vec Ideal ⟨1, ![6144]⟩ .f32) (x5 : Vec Ideal S96x6144 .f32) : Vec Ideal S96x6144 .bf16 :=
  fun i => Cert.ProjRefIdeal.Read.val_main_v19 x0 x1 x2 x3 x4 x5 (ix3 (i 0) (0 : Fin 1) (i 1))

theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val]
    ∧ win0_6.index t = ![0, t.val] :=
  (by decide +kernel : ∀ t : Fin grid0.N, _)

theorem V_main_v0 (c : Dev nD) : V m c main_v0 = shapeCast _ (m ((c.tc : Thread nD τ).loc main_arg3)) shapeCasts_S6144_S1x6144 := by
  show StableHlo.after hostOps0 (fun b => m (c, b)) _ = _
  after_results
  all_goals rfl

theorem V_main_v1 (c : Dev nD) : V m c main_v1 = shapeCast _ (m ((c.tc : Thread nD τ).loc main_arg4)) shapeCasts_S6144_S1x6144 := by
  show StableHlo.after hostOps0 (fun b => m (c, b)) _ = _
  after_results
  all_goals rfl

theorem row_at (x : Vec Ideal ⟨1, ![6144]⟩ .f32) (i : S1x6144.Idx) :
    shapeCast S1x6144 x shapeCasts_S6144_S1x6144 i = x (ix1 (i 1)) := by
  idx_vars i
  pointwise

/-- An 8-bit integer widened to 32 bits converts to the same real. -/
theorem sitofp_signExtend (φ ψ : FTy) (x : BitVec 8) :
    (FloatOps.sitofp (F := Ideal) φ (BitVec.signExtend 32 x)) = FloatOps.sitofp (F := Ideal) ψ x := by
  show (((BitVec.signExtend 32 x).toInt : ℝ) : EReal) = ((x.toInt : ℝ) : EReal)
  rw [BitVec.toInt_signExtend_of_le (by decide)]

theorem sitofp_bf16 (x : BitVec 8) :
    (FloatOps.sitofp (F := Ideal) .bf16 x) = FloatOps.sitofp (F := Ideal) .f32 x := rfl

theorem point (c : Dev nD) (t : Fin cfg0.N) (y) :
    k0_pay1 (iblk m c 0 t) (iblk m c 2 t) (iblk m c 1 t) (iblk m c 3 t) (iblk m c 4 t) (iblk m c 5 t) y
      = REF (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (((cfg0.win 6).blk t).view.emb y) := by
  unfold REF
  simp only [← Cert.ProjRefIdeal.Read.val_main_v19_eq]
  pointwise [k0_pay1]
  simp only [sitofp_signExtend .f32 .f32, sitofp_bf16]
  blk_point [iblk, V_main_v0, V_main_v1, V_main_arg0, V_main_arg1, V_main_arg2, V_main_arg5, idx t]
  · rw [V_main_v0, row_at]
    blk_ext [idx t]
  · rw [V_main_v1, row_at]
    blk_ext [idx t]

theorem final (c : Dev nD) : (dats m 0 c).arrAt 6 (cfgs 0).N
      = REF (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (dats m 0 c).arrAt_eq_of_covers 6 _ (by decide +kernel) fun t _ y => ?_
  blk_simp
  rw [after0_6]
  frame_out
  exact point m c t y

/-- The trailing reshape reads the array the pipeline leaves. -/
theorem tail (c : Dev nD) :
    Pipeline.afterTail₀ cfgs (dats m) 0 (V0 m) [hostOps1] c main_v3
      = shapeCast S96x1x6144 ((dats m 0 c).arrAt 6 (cfgs 0).N) shapeCasts_S96x6144_S96x1x6144 := by
  unfold Pipeline.afterTail₀
  show StableHlo.after hostOps1 _ _ = _
  after_results
  exact congrArg (fun z => shapeCast S96x1x6144 z shapeCasts_S96x6144_S96x1x6144)
    (Pipeline.withArrays_arr (cfgs 0).spec (by decide) c (V0 m c) (fun w => (dats m 0 c).arrAt w (cfgs 0).N) 6)

theorem ref_shape (x0 : Vec Ideal S96x12288 .i8) (x1 : Vec Ideal S96x1 .f32) (x2 : Vec Ideal S12288x6144 .i8)
    (x3 x4 : Vec Ideal ⟨1, ![6144]⟩ .f32) (x5 : Vec Ideal S96x6144 .f32) :
    Cert.ProjRefIdeal.Read.val_main_v19 x0 x1 x2 x3 x4 x5
      = shapeCast S96x1x6144 (REF x0 x1 x2 x3 x4 x5) shapeCasts_S96x6144_S96x1x6144 := by
  funext i
  unfold REF
  generalize Cert.ProjRefIdeal.Read.val_main_v19 x0 x1 x2 x3 x4 x5 = z
  idx_vars i
  pointwise
  rw [Subsingleton.elim i1 0]

end Cert.ProjIdeal.Hand

open Idealize.ShloMosaic Idealize.ShloMosaic.TcCoe Idealize.ShloMosaic.StableHlo Idealize.SL.Sem

/-- The projection's kernel and its reference compute the same result. -/
theorem Cert.algebraic_Proj : Cert.algebraic_ProjIdeal_ProjRefIdeal := by
  pair_intro
  · run_from Cert.ProjIdeal.Gen.run_main m g
    · exact Cert.ProjIdeal.Gen.W_main_arg3 m _ c
    · exact Cert.ProjIdeal.Gen.W_main_arg4 m _ c
  · run_from Cert.ProjRefIdeal.Value.run m' g'
    rw [Cert.ProjIdeal.Hand.tail, Cert.ProjIdeal.Hand.final]
    exact (Cert.ProjRefIdeal.Read.val_main_v19_eq ..).trans (Cert.ProjIdeal.Hand.ref_shape ..)

end
-- ==== Proof.lean ====
module

public import proofs.«01_k».proof.Defs
public import proofs.«01_k».proof.Proof.Gen.Qkv.Launch
public import proofs.«01_k».proof.Proof.Gen.QkvRefIdeal.Run
public import proofs.«01_k».proof.Proof.Gen.QkvRefIdeal.Read
public import proofs.«01_k».proof.Proof.QkvData
public import proofs.«01_k».proof.Proof.QkvValue
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Gen.Oproj.Launch
public import proofs.«01_k».proof.Proof.Gen.OprojRefIdeal.Run
public import proofs.«01_k».proof.Proof.Gen.OprojRefIdeal.Read
public import proofs.«01_k».proof.Proof.OprojData
public import proofs.«01_k».proof.Proof.OprojValue
public import proofs.«01_k».proof.Proof.Gen.Fc.Launch
public import proofs.«01_k».proof.Proof.Gen.FcRefIdeal.Run
public import proofs.«01_k».proof.Proof.Gen.FcRefIdeal.Read
public import proofs.«01_k».proof.Proof.FcData
public import proofs.«01_k».proof.Proof.FcValue
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.ProjValue
import Idealize.ShloMosaic.Lib.Claim

@[expose] public section

set_option maxRecDepth 16384

open Idealize.ShloMosaic Idealize.ShloMosaic.Tactic Idealize.ShloMosaic.TcCoe Idealize.ShloMosaic.StableHlo Idealize.SL.Sem

/-- The qkv kernel over the extended reals leaves its arguments unchanged. -/
theorem Cert.frame_QkvIdeal : Cert.quiescent_QkvIdeal (hQkvIdeal := Cert.QkvIdeal.Gen.facts) :=
  fun m ρ _ => Cert.QkvIdeal.Hand.frame m ρ

/-- So does the kernel at its own floats: it is the same program. -/
theorem Cert.frame_Qkv : Cert.quiescent_Qkv (hQkv := Cert.Qkv.Gen.facts) :=
  fun m ρ _ => cast (by sl_kernel_rfl) (Cert.QkvIdeal.Hand.frame (F := Bits) m ρ)

/-- The reference of `Qkv` leaves its arguments unchanged. -/
theorem Cert.quiescent_QkvRef : Cert.quiescent_QkvRefIdeal := fun m g _ =>
  (θ_run _ _ _).mono (fun r h => ⟨fun c => (h c).2.2.2.2.2.2.2, sem_eq_zero_of_no_sems (by decide) r.2⟩)
    (Cert.QkvRefIdeal.Value.run m g)

/-- The reference of `Attn` leaves its arguments unchanged. -/
theorem Cert.quiescent_AttnRef : Cert.quiescent_AttnRefIdeal := fun m g _ =>
  (θ_run _ _ _).mono (fun r h => ⟨fun c => (h c).2.2.2, sem_eq_zero_of_no_sems (by decide) r.2⟩)
    (Cert.AttnRefIdeal.Value.run m g)

/-- The oproj kernel over the extended reals leaves its arguments unchanged. -/
theorem Cert.frame_OprojIdeal : Cert.quiescent_OprojIdeal (hOprojIdeal := Cert.OprojIdeal.Gen.facts) :=
  fun m ρ _ => Cert.OprojIdeal.Hand.frame m ρ

/-- So does the kernel at its own floats: it is the same program. -/
theorem Cert.frame_Oproj : Cert.quiescent_Oproj (hOproj := Cert.Oproj.Gen.facts) :=
  fun m ρ _ => cast (by sl_kernel_rfl) (Cert.OprojIdeal.Hand.frame (F := Bits) m ρ)

/-- The reference of `Oproj` leaves its arguments unchanged. -/
theorem Cert.quiescent_OprojRef : Cert.quiescent_OprojRefIdeal := fun m g _ =>
  (θ_run _ _ _).mono (fun r h => ⟨fun c => (h c).2.2.2, sem_eq_zero_of_no_sems (by decide) r.2⟩)
    (Cert.OprojRefIdeal.Value.run m g)

/-- The fc kernel over the extended reals leaves its arguments unchanged. -/
theorem Cert.frame_FcIdeal : Cert.quiescent_FcIdeal (hFcIdeal := Cert.FcIdeal.Gen.facts) :=
  fun m ρ _ => Cert.FcIdeal.Hand.frame m ρ

/-- So does the kernel at its own floats: it is the same program. -/
theorem Cert.frame_Fc : Cert.quiescent_Fc (hFc := Cert.Fc.Gen.facts) :=
  fun m ρ _ => cast (by sl_kernel_rfl) (Cert.FcIdeal.Hand.frame (F := Bits) m ρ)

/-- The reference of `Fc` leaves its arguments unchanged. -/
theorem Cert.quiescent_FcRef : Cert.quiescent_FcRefIdeal := fun m g _ =>
  (θ_run _ _ _).mono (fun r h => ⟨fun c => (h c).2.2, sem_eq_zero_of_no_sems (by decide) r.2⟩)
    (Cert.FcRefIdeal.Value.run m g)

/-- The reference of `Proj` leaves its arguments unchanged. -/
theorem Cert.quiescent_ProjRef : Cert.quiescent_ProjRefIdeal := fun m g _ =>
  (θ_run _ _ _).mono (fun r h => ⟨fun c => (h c).2, sem_eq_zero_of_no_sems (by decide) r.2⟩)
    (Cert.ProjRefIdeal.Value.run m g)

/-- Everything claimed, over the programs' own side conditions. -/
theorem Cert.Proof.claim : Cert.Claim :=
  ⟨Cert.Qkv.Gen.facts, Cert.QkvIdeal.Gen.facts, Cert.QkvRefIdeal.Gen.facts, Cert.Attn.Gen.facts, Cert.AttnIdeal.Gen.facts, Cert.AttnRefIdeal.Gen.facts, Cert.Oproj.Gen.facts, Cert.OprojIdeal.Gen.facts, Cert.OprojRefIdeal.Gen.facts, Cert.Fc.Gen.facts, Cert.FcIdeal.Gen.facts, Cert.FcRefIdeal.Gen.facts, Cert.Proj.Gen.facts, Cert.ProjIdeal.Gen.facts, Cert.ProjRefIdeal.Gen.facts,
    Cert.frame_Qkv, Cert.frame_QkvIdeal, Cert.quiescent_QkvRef,
    fun m g _ => Cert.Attn.Gen.frame m g, fun m g _ => Cert.AttnIdeal.Gen.frame m g, Cert.quiescent_AttnRef,
    Cert.frame_Oproj, Cert.frame_OprojIdeal, Cert.quiescent_OprojRef,
    Cert.frame_Fc, Cert.frame_FcIdeal, Cert.quiescent_FcRef,
    fun m g _ => Cert.Proj.Gen.frame m g, fun m g _ => Cert.ProjIdeal.Gen.frame m g, Cert.quiescent_ProjRef,
    trivial, Cert.algebraic_Qkv,
    trivial,
    trivial, Cert.algebraic_Oproj,
    trivial, Cert.algebraic_Fc,
    trivial, Cert.algebraic_Proj⟩
